-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v96)) (v2 : (c : Dev Cert.KernelIdeal.nD) → Buf (Elt Ideal) ((c.tc : Thread Cert.KernelIdeal.nD Cert.KernelIdeal.τ).loc Cert.KernelIdeal.main_v98)) (v3 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_v100) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v270) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v178) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4096 : Shape := ⟨1, ![4096]⟩
abbrev S1600000 : Shape := ⟨1, ![1600000]⟩
abbrev S50000x32 : Shape := ⟨2, ![50000, 32]⟩
abbrev S32x64 : Shape := ⟨2, ![32, 64]⟩
abbrev S32x16 : Shape := ⟨2, ![32, 16]⟩
abbrev S32 : Shape := ⟨1, ![32]⟩
abbrev S100000x32 : Shape := ⟨2, ![100000, 32]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : IVec S4096 32) (main_arg2 : IVec S4096 32) (main_arg3 : IVec S1600000 32) (main_arg4 : IVec S1600000 32) (main_arg5 : FVec F S50000x32 .f32) (main_arg6 : FVec F S50000x32 .f32) (main_arg7 : FVec F S32x64 .f32) (main_arg8 : FVec F S32x64 .f32) (main_arg9 : FVec F S32x16 .f32) (main_arg10 : FVec F S32 .f32) (main_arg11 : FVec F S100000x32 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 50000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg1 main_v5
  let main_v7 : IVec S4096 1 := andi main_v4 main_v6
  let main_c_2 : IVec S_ 32 := constantI S_ 32 50000#32
  let main_v8 : IVec S4096 32 := broadcastInDim S4096 ![] bcast_S_S4096 main_c_2
  let main_v9 : IVec S4096 1 := cmpi .slt main_arg1 main_v8
  let main_v10 : IVec S4096 1 := andi main_v7 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_v13 : IVec S4096 1 := andi main_v10 main_v12
  let main_c_4 : IVec S_ 32 := constantI S_ 32 50000#32
  let main_v14 : IVec S4096 32 := broadcastInDim S4096 ![] bcast_S_S4096 main_c_4
  let main_v15 : IVec S4096 1 := cmpi .slt main_arg2 main_v14
  let main_v16 : IVec S4096 1 := andi main_v13 main_v15
  main_v16
-- ==== Kernel.lean ====
abbrev S4096 : Shape := ⟨1, ![4096]⟩
abbrev S1600000 : Shape := ⟨1, ![1600000]⟩
abbrev S50000x32 : Shape := ⟨2, ![50000, 32]⟩
abbrev S32x64 : Shape := ⟨2, ![32, 64]⟩
abbrev S32x16 : Shape := ⟨2, ![32, 16]⟩
abbrev S32 : Shape := ⟨1, ![32]⟩
abbrev S100000x32 : Shape := ⟨2, ![100000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S16x32 : Shape := ⟨2, ![16, 32]⟩
abbrev S1x32 : Shape := ⟨2, ![1, 32]⟩
abbrev S1x1 : Shape := ⟨2, ![1, 1]⟩
abbrev S1000x32 : Shape := ⟨2, ![1000, 32]⟩
abbrev S1000x16 : Shape := ⟨2, ![1000, 16]⟩
abbrev S1000x64 : Shape := ⟨2, ![1000, 64]⟩
abbrev S1000 : Shape := ⟨1, ![1000]⟩
abbrev S1000x1 : Shape := ⟨2, ![1000, 1]⟩
abbrev S64x32 : Shape := ⟨2, ![64, 32]⟩
abbrev S1x1000x32 : Shape := ⟨3, ![1, 1000, 32]⟩
abbrev S1 : Shape := ⟨1, ![1]⟩
abbrev S1x1x1 : Shape := ⟨3, ![1, 1, 1]⟩
abbrev S4096x1 : Shape := ⟨2, ![4096, 1]⟩
abbrev S50000x128 : Shape := ⟨2, ![50000, 128]⟩
abbrev S50000x64 : Shape := ⟨2, ![50000, 64]⟩
abbrev S4096x128 : Shape := ⟨2, ![4096, 128]⟩
abbrev S400x128 : Shape := ⟨2, ![400, 128]⟩
abbrev S1x400 : Shape := ⟨2, ![1, 400]⟩
abbrev S4096x400 : Shape := ⟨2, ![4096, 400]⟩
abbrev S4096x64 : Shape := ⟨2, ![4096, 64]⟩
abbrev S400x64 : Shape := ⟨2, ![400, 64]⟩
abbrev S4096x32 : Shape := ⟨2, ![4096, 32]⟩
abbrev S512x32 : Shape := ⟨2, ![512, 32]⟩
abbrev S512 : Shape := ⟨1, ![512]⟩
abbrev S1x512 : Shape := ⟨2, ![1, 512]⟩
abbrev S1x512x32 : Shape := ⟨3, ![1, 512, 32]⟩
abbrev S512x1 : Shape := ⟨2, ![512, 1]⟩
abbrev S32x4096 : Shape := ⟨2, ![32, 4096]⟩
abbrev S512x4096 : Shape := ⟨2, ![512, 4096]⟩
abbrev S1x32x64 : Shape := ⟨3, ![1, 32, 64]⟩

abbrev nBuf : Space → Nat
  | .hbm => 155
  | .vmem => 73
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S1600000, .i32⟩
  | 4 => ⟨S1600000, .i32⟩
  | 5 => ⟨S50000x32, .f32⟩
  | 6 => ⟨S50000x32, .f32⟩
  | 7 => ⟨S32x64, .f32⟩
  | 8 => ⟨S32x64, .f32⟩
  | 9 => ⟨S32x16, .f32⟩
  | 10 => ⟨S32, .f32⟩
  | 11 => ⟨S100000x32, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000x32, .f32⟩
  | 48 => ⟨S1600000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x32, .f32⟩
  | 59 => ⟨S1600000x32, .f32⟩
  | 60 => ⟨S_, .f32⟩
  | 61 => ⟨S100000x32, .f32⟩
  | 62 => ⟨S1600000x1, .i32⟩
  | 63 => ⟨S100000x32, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S1600000x32, .f32⟩
  | 75 => ⟨S1600000x32, .f32⟩
  | 76 => ⟨S_, .f32⟩
  | 77 => ⟨S100000x32, .f32⟩
  | 78 => ⟨S1600000x1, .i32⟩
  | 79 => ⟨S100000x32, .f32⟩
  | 80 => ⟨S16x32, .f32⟩
  | 81 => ⟨S1x32, .f32⟩
  | 82 => ⟨S50000x32, .f32⟩
  | 83 => ⟨S50000x32, .f32⟩
  | 84 => ⟨S50000x32, .f32⟩
  | 85 => ⟨S50000x32, .f32⟩
  | 86 => ⟨S50000x32, .f32⟩
  | 87 => ⟨S50000x32, .f32⟩
  | 88 => ⟨S50000x32, .f32⟩
  | 89 => ⟨S1x1, .f32⟩
  | 90 => ⟨S50000x32, .f32⟩
  | 91 => ⟨S50000x32, .f32⟩
  | 92 => ⟨S50000x32, .f32⟩
  | 93 => ⟨S50000x32, .f32⟩
  | 94 => ⟨S50000x32, .f32⟩
  | 95 => ⟨S50000x32, .f32⟩
  | 96 => ⟨S50000x32, .f32⟩
  | 97 => ⟨S1x1, .f32⟩
  | 98 => ⟨S4096x1, .i32⟩
  | 99 => ⟨S4096x1, .i32⟩
  | 100 => ⟨S4096x1, .i32⟩
  | 101 => ⟨S50000x128, .f32⟩
  | 102 => ⟨S50000x128, .f32⟩
  | 103 => ⟨S50000x64, .f32⟩
  | 104 => ⟨S4096x128, .f32⟩
  | 105 => ⟨S4096x128, .f32⟩
  | 106 => ⟨S4096x64, .f32⟩
  | 107 => ⟨S4096x32, .f32⟩
  | 108 => ⟨S4096x32, .f32⟩
  | 109 => ⟨S4096x32, .f32⟩
  | 110 => ⟨S4096x32, .f32⟩
  | 111 => ⟨S4096x32, .f32⟩
  | 112 => ⟨S4096x32, .f32⟩
  | 113 => ⟨S4096x32, .f32⟩
  | 114 => ⟨S4096x32, .f32⟩
  | 115 => ⟨S4096x32, .f32⟩
  | 116 => ⟨S4096x32, .f32⟩
  | 117 => ⟨S1x1, .f32⟩
  | 118 => ⟨S1x1, .f32⟩
  | 119 => ⟨S1x1, .f32⟩
  | 120 => ⟨S1x1, .f32⟩
  | 121 => ⟨S1x1, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S1000x32, .f32⟩
  | .local _ .vmem, ⟨1, _⟩ => ⟨S1000x32, .f32⟩
  | .local _ .vmem, ⟨2, _⟩ => ⟨S1000x32, .f32⟩
  | .local _ .vmem, ⟨3, _⟩ => ⟨S1000x32, .f32⟩
  | .local _ .vmem, ⟨4, _⟩ => ⟨S1000x32, .f32⟩
  | .local _ .vmem, ⟨5, _⟩ => ⟨S1000x32, .f32⟩
  | .local _ .vmem, ⟨6, _⟩ => ⟨S1000x32, .f32⟩
  | .local _ .vmem, ⟨7, _⟩ => ⟨S1000x32, .f32⟩
  | .local _ .vmem, ⟨8, _⟩ => ⟨S32x64, .f32⟩
  | .local _ .vmem, ⟨9, _⟩ => ⟨S16x32, .f32⟩
  | .local _ .vmem, ⟨10, _⟩ => ⟨S1x32, .f32⟩
  | .local _ .vmem, ⟨11, _⟩ => ⟨S1000x32, .f32⟩
  | .local _ .vmem, ⟨12, _⟩ => ⟨S1000x32, .f32⟩
  | .local _ .vmem, ⟨13, _⟩ => ⟨S1000x32, .f32⟩
  | .local _ .vmem, ⟨14, _⟩ => ⟨S1000x32, .f32⟩
  | .local _ .vmem, ⟨15, _⟩ => ⟨S1000x32, .f32⟩
  | .local _ .vmem, ⟨16, _⟩ => ⟨S1000x32, .f32⟩
  | .local _ .vmem, ⟨17, _⟩ => ⟨S1x1, .f32⟩
  | .local _ .vmem, ⟨18, _⟩ => ⟨S1000x32, .f32⟩
  | .local _ .vmem, ⟨19, _⟩ => ⟨S1000x32, .f32⟩
  | .local _ .vmem, ⟨20, _⟩ => ⟨S1000x32, .f32⟩
  | .local _ .vmem, ⟨21, _⟩ => ⟨S1000x32, .f32⟩
  | .local _ .vmem, ⟨22, _⟩ => ⟨S1000x32, .f32⟩
  | .local _ .vmem, ⟨23, _⟩ => ⟨S1000x32, .f32⟩
  | .local _ .vmem, ⟨24, _⟩ => ⟨S1000x32, .f32⟩
  | .local _ .vmem, ⟨25, _⟩ => ⟨S1000x32, .f32⟩
  | .local _ .vmem, ⟨26, _⟩ => ⟨S32x64, .f32⟩
  | .local _ .vmem, ⟨27, _⟩ => ⟨S16x32, .f32⟩
  | .local _ .vmem, ⟨28, _⟩ => ⟨S1x32, .f32⟩
  | .local _ .vmem, ⟨29, _⟩ => ⟨S1000x32, .f32⟩
  | .local _ .vmem, ⟨30, _⟩ => ⟨S1000x32, .f32⟩
  | .local _ .vmem, ⟨31, _⟩ => ⟨S1000x32, .f32⟩
  | .local _ .vmem, ⟨32, _⟩ => ⟨S1000x32, .f32⟩
  | .local _ .vmem, ⟨33, _⟩ => ⟨S1000x32, .f32⟩
  | .local _ .vmem, ⟨34, _⟩ => ⟨S1000x32, .f32⟩
  | .local _ .vmem, ⟨35, _⟩ => ⟨S1x1, .f32⟩
  | .local _ .vmem, ⟨36, _⟩ => ⟨S4096x1, .i32⟩
  | .local _ .vmem, ⟨37, _⟩ => ⟨S400x128, .f32⟩
  | .local _ .vmem, ⟨38, _⟩ => ⟨S400x128, .f32⟩
  | .local _ .vmem, ⟨39, _⟩ => ⟨S4096x128, .f32⟩
  | .local _ .vmem, ⟨40, _⟩ => ⟨S4096x1, .i32⟩
  | .local _ .vmem, ⟨41, _⟩ => ⟨S400x128, .f32⟩
  | .local _ .vmem, ⟨42, _⟩ => ⟨S400x128, .f32⟩
  | .local _ .vmem, ⟨43, _⟩ => ⟨S4096x128, .f32⟩
  | .local _ .vmem, ⟨44, _⟩ => ⟨S4096x1, .i32⟩
  | .local _ .vmem, ⟨45, _⟩ => ⟨S400x64, .f32⟩
  | .local _ .vmem, ⟨46, _⟩ => ⟨S400x64, .f32⟩
  | .local _ .vmem, ⟨47, _⟩ => ⟨S4096x64, .f32⟩
  | .local _ .vmem, ⟨48, _⟩ => ⟨S512x32, .f32⟩
  | .local _ .vmem, ⟨49, _⟩ => ⟨S512x32, .f32⟩
  | .local _ .vmem, ⟨50, _⟩ => ⟨S512x32, .f32⟩
  | .local _ .vmem, ⟨51, _⟩ => ⟨S512x32, .f32⟩
  | .local _ .vmem, ⟨52, _⟩ => ⟨S512x32, .f32⟩
  | .local _ .vmem, ⟨53, _⟩ => ⟨S512x32, .f32⟩
  | .local _ .vmem, ⟨54, _⟩ => ⟨S512x32, .f32⟩
  | .local _ .vmem, ⟨55, _⟩ => ⟨S512x32, .f32⟩
  | .local _ .vmem, ⟨56, _⟩ => ⟨S512x32, .f32⟩
  | .local _ .vmem, ⟨57, _⟩ => ⟨S512x32, .f32⟩
  | .local _ .vmem, ⟨58, _⟩ => ⟨S4096x32, .f32⟩
  | .local _ .vmem, ⟨59, _⟩ => ⟨S4096x32, .f32⟩
  | .local _ .vmem, ⟨60, _⟩ => ⟨S512x32, .f32⟩
  | .local _ .vmem, ⟨61, _⟩ => ⟨S512x32, .f32⟩
  | .local _ .vmem, ⟨62, _⟩ => ⟨S512x32, .f32⟩
  | .local _ .vmem, ⟨63, _⟩ => ⟨S512x32, .f32⟩
  | .local _ .vmem, ⟨64, _⟩ => ⟨S512x32, .f32⟩
  | .local _ .vmem, ⟨65, _⟩ => ⟨S512x32, .f32⟩
  | .local _ .vmem, ⟨66, _⟩ => ⟨S32x64, .f32⟩
  | .local _ .vmem, ⟨67, _⟩ => ⟨S32x64, .f32⟩
  | .local _ .vmem, ⟨68, _⟩ => ⟨S1x1, .f32⟩
  | .local _ .vmem, ⟨69, _⟩ => ⟨S1x1, .f32⟩
  | .local _ .vmem, ⟨70, _⟩ => ⟨S1x1, .f32⟩
  | .local _ .vmem, ⟨71, _⟩ => ⟨S1x1, .f32⟩
  | .local _ .vmem, ⟨72, _⟩ => ⟨S1x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_v57_2 : Ref sig .tc := ⟨.hbm, 88, rfl⟩
abbrev main_v57_3 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62_0 : Ref sig .tc := ⟨.hbm, 94, rfl⟩
abbrev main_v62_1 : Ref sig .tc := ⟨.hbm, 95, rfl⟩
abbrev main_v62_2 : Ref sig .tc := ⟨.hbm, 96, rfl⟩
abbrev main_v62_3 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82_0 : Ref sig .tc := ⟨.hbm, 117, rfl⟩
abbrev main_v82_1 : Ref sig .tc := ⟨.hbm, 118, rfl⟩
abbrev main_v82_2 : Ref sig .tc := ⟨.hbm, 119, rfl⟩
abbrev main_v82_3 : Ref sig .tc := ⟨.hbm, 120, rfl⟩
abbrev main_v82_4 : Ref sig .tc := ⟨.hbm, 121, rfl⟩
abbrev main_cst_13 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_cst_17 : Ref sig .tc := ⟨.hbm, 131, rfl⟩
abbrev main_v88 : Ref sig .tc := ⟨.hbm, 132, rfl⟩
abbrev main_cst_18 : Ref sig .tc := ⟨.hbm, 133, rfl⟩
abbrev main_v89 : Ref sig .tc := ⟨.hbm, 134, rfl⟩
abbrev main_v90 : Ref sig .tc := ⟨.hbm, 135, rfl⟩
abbrev main_cst_19 : Ref sig .tc := ⟨.hbm, 136, rfl⟩
abbrev main_v91 : Ref sig .tc := ⟨.hbm, 137, rfl⟩
abbrev main_cst_20 : Ref sig .tc := ⟨.hbm, 138, rfl⟩
abbrev main_v92 : Ref sig .tc := ⟨.hbm, 139, rfl⟩
abbrev main_cst_21 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩
abbrev main_cst_23 : Ref sig .tc := ⟨.hbm, 145, rfl⟩
abbrev main_v96 : Ref sig .tc := ⟨.hbm, 146, rfl⟩
abbrev main_cst_24 : Ref sig .tc := ⟨.hbm, 147, rfl⟩
abbrev main_v97 : Ref sig .tc := ⟨.hbm, 148, rfl⟩
abbrev main_cst_25 : Ref sig .tc := ⟨.hbm, 149, rfl⟩
abbrev main_v98 : Ref sig .tc := ⟨.hbm, 150, rfl⟩
abbrev main_cst_26 : Ref sig .tc := ⟨.hbm, 151, rfl⟩
abbrev main_v99 : Ref sig .tc := ⟨.hbm, 152, rfl⟩
abbrev main_cst_27 : Ref sig .tc := ⟨.hbm, 153, rfl⟩
abbrev main_v100 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc2_stg0_0 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc5_stg8_0 : Ref sig .tc := ⟨.vmem, 62, rfl⟩
abbrev cc5_stg8_1 : Ref sig .tc := ⟨.vmem, 63, rfl⟩
abbrev cc5_stg9_0 : Ref sig .tc := ⟨.vmem, 64, rfl⟩
abbrev cc5_stg9_1 : Ref sig .tc := ⟨.vmem, 65, rfl⟩
abbrev cc5_stg10_0 : Ref sig .tc := ⟨.vmem, 66, rfl⟩
abbrev cc5_stg11_0 : Ref sig .tc := ⟨.vmem, 67, rfl⟩
abbrev cc5_stg12_0 : Ref sig .tc := ⟨.vmem, 68, rfl⟩
abbrev cc5_stg13_0 : Ref sig .tc := ⟨.vmem, 69, rfl⟩
abbrev cc5_stg14_0 : Ref sig .tc := ⟨.vmem, 70, rfl⟩
abbrev cc5_stg15_0 : Ref sig .tc := ⟨.vmem, 71, rfl⟩
abbrev cc5_stg16_0 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc2_sem0_0 : DmaSem sig := 36
abbrev cc2_sem1_0 : DmaSem sig := 37
abbrev cc2_sem1_1 : DmaSem sig := 38
abbrev cc2_sem2_0 : DmaSem sig := 39
abbrev cc3_sem0_0 : DmaSem sig := 40
abbrev cc3_sem1_0 : DmaSem sig := 41
abbrev cc3_sem1_1 : DmaSem sig := 42
abbrev cc3_sem2_0 : DmaSem sig := 43
abbrev cc4_sem0_0 : DmaSem sig := 44
abbrev cc4_sem1_0 : DmaSem sig := 45
abbrev cc4_sem1_1 : DmaSem sig := 46
abbrev cc4_sem2_0 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem6_0 : DmaSem sig := 59
abbrev cc5_sem7_0 : DmaSem sig := 60
abbrev cc5_sem7_1 : DmaSem sig := 61
abbrev cc5_sem8_0 : DmaSem sig := 62
abbrev cc5_sem8_1 : DmaSem sig := 63
abbrev cc5_sem9_0 : DmaSem sig := 64
abbrev cc5_sem9_1 : DmaSem sig := 65
abbrev cc5_sem10_0 : DmaSem sig := 66
abbrev cc5_sem11_0 : DmaSem sig := 67
abbrev cc5_sem12_0 : DmaSem sig := 68
abbrev cc5_sem13_0 : DmaSem sig := 69
abbrev cc5_sem14_0 : DmaSem sig := 70
abbrev cc5_sem15_0 : DmaSem sig := 71
abbrev cc5_sem16_0 : DmaSem sig := 72

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x1 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S400x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x1 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![8], ![false]⟩

def k5_off1 (i : grid5.Coords) : Fin 2 → Nat :=
  let arg0 : BitVec 32 := BitVec.ofNat 32 (i 0).val
  let c512_i32 : BitVec 32 := 512#32
  let v88 : BitVec 32 := Scalar.muli arg0 c512_i32
  let v89 : Index := Scalar.indexCast v88
  let c0_38 : Index := 0#32
  ![v89.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S4096x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S4096x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S512x32 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x32 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x32 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 1 → Memref sig .tc .vmem S32x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S32x64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x1 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x1 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x1 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S1x1 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x1 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]
-- ==== ReferenceIdeal.lean ====
abbrev S4096 : Shape := ⟨1, ![4096]⟩
abbrev S1600000 : Shape := ⟨1, ![1600000]⟩
abbrev S50000x32 : Shape := ⟨2, ![50000, 32]⟩
abbrev S32x64 : Shape := ⟨2, ![32, 64]⟩
abbrev S32x16 : Shape := ⟨2, ![32, 16]⟩
abbrev S32 : Shape := ⟨1, ![32]⟩
abbrev S100000x32 : Shape := ⟨2, ![100000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x16 : Shape := ⟨2, ![100000, 16]⟩
abbrev S16x32 : Shape := ⟨2, ![16, 32]⟩
abbrev S1x32 : Shape := ⟨2, ![1, 32]⟩
abbrev S50000x64 : Shape := ⟨2, ![50000, 64]⟩
abbrev S50000 : Shape := ⟨1, ![50000]⟩
abbrev S50000x1 : Shape := ⟨2, ![50000, 1]⟩
abbrev S64x32 : Shape := ⟨2, ![64, 32]⟩
abbrev S4096x1 : Shape := ⟨2, ![4096, 1]⟩
abbrev S4096x32 : Shape := ⟨2, ![4096, 32]⟩
abbrev S32x4096 : Shape := ⟨2, ![32, 4096]⟩
abbrev S4096x4096 : Shape := ⟨2, ![4096, 4096]⟩

abbrev nBuf : Space → Nat
  | .hbm => 414
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S1600000, .i32⟩
  | 4 => ⟨S1600000, .i32⟩
  | 5 => ⟨S50000x32, .f32⟩
  | 6 => ⟨S50000x32, .f32⟩
  | 7 => ⟨S32x64, .f32⟩
  | 8 => ⟨S32x64, .f32⟩
  | 9 => ⟨S32x16, .f32⟩
  | 10 => ⟨S32, .f32⟩
  | 11 => ⟨S100000x32, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000x32, .f32⟩
  | 48 => ⟨S1600000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x32, .f32⟩
  | 59 => ⟨S1600000x32, .f32⟩
  | 60 => ⟨S_, .f32⟩
  | 61 => ⟨S100000x32, .f32⟩
  | 62 => ⟨S1600000x1, .i32⟩
  | 63 => ⟨S100000x32, .f32⟩
  | 64 => ⟨S100000x32, .f32⟩
  | 65 => ⟨S1600000x1, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x32, .f32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S100000x32, .f32⟩
  | 82 => ⟨S50000x32, .f32⟩
  | 83 => ⟨S50000x32, .f32⟩
  | 84 => ⟨S100000x16, .f32⟩
  | 85 => ⟨S_, .f32⟩
  | 86 => ⟨S100000x16, .f32⟩
  | 87 => ⟨S100000x16, .f32⟩
  | 88 => ⟨S100000x16, .f32⟩
  | 89 => ⟨S100000x16, .f32⟩
  | 90 => ⟨S100000x16, .i1⟩
  | 91 => ⟨S100000x16, .f32⟩
  | 92 => ⟨S100000x16, .f32⟩
  | 93 => ⟨S100000x16, .f32⟩
  | 94 => ⟨S100000x16, .f32⟩
  | 95 => ⟨S100000x16, .f32⟩
  | 96 => ⟨S100000x16, .f32⟩
  | 97 => ⟨S100000x16, .f32⟩
  | 98 => ⟨S100000x16, .f32⟩
  | 99 => ⟨S16x32, .f32⟩
  | 100 => ⟨S100000x32, .f32⟩
  | 101 => ⟨S1x32, .f32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S100000x32, .f32⟩
  | 108 => ⟨S100000x32, .f32⟩
  | 109 => ⟨S50000x64, .f32⟩
  | 110 => ⟨S_, .f32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S_, .f32⟩
  | 120 => ⟨S50000, .f32⟩
  | 121 => ⟨S50000x1, .f32⟩
  | 122 => ⟨S50000x64, .f32⟩
  | 123 => ⟨S50000x64, .f32⟩
  | 124 => ⟨S64x32, .f32⟩
  | 125 => ⟨S50000x32, .f32⟩
  | 126 => ⟨S50000x64, .f32⟩
  | 127 => ⟨S_, .f32⟩
  | _ => ⟨S4096, .i32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000x1, .f32⟩
  | 5 => ⟨S50000x64, .f32⟩
  | 6 => ⟨S50000x64, .f32⟩
  | 7 => ⟨S50000x64, .f32⟩
  | 8 => ⟨S_, .f32⟩
  | 9 => ⟨S50000, .f32⟩
  | 10 => ⟨S50000x1, .f32⟩
  | 11 => ⟨S50000x64, .f32⟩
  | 12 => ⟨S50000x64, .f32⟩
  | 13 => ⟨S64x32, .f32⟩
  | 14 => ⟨S50000x32, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x32, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x32, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x32, .f32⟩
  | 42 => ⟨S4096x32, .f32⟩
  | 43 => ⟨S_, .f32⟩
  | 44 => ⟨S4096, .f32⟩
  | 45 => ⟨S4096x32, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S4096, .f32⟩
  | 53 => ⟨S4096, .f32⟩
  | 54 => ⟨S4096, .i1⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .f32⟩
  | 62 => ⟨S4096, .f32⟩
  | 63 => ⟨S_, .f32⟩
  | 64 => ⟨S_, .f32⟩
  | 65 => ⟨S_, .f32⟩
  | 66 => ⟨S_, .f32⟩
  | 67 => ⟨S_, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x32, .f32⟩
  | 74 => ⟨S100000x32, .f32⟩
  | 75 => ⟨S100000x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x32, .f32⟩
  | 82 => ⟨S_, .f32⟩
  | 83 => ⟨S100000x32, .f32⟩
  | 84 => ⟨S100000x32, .i1⟩
  | 85 => ⟨S100000x32, .i1⟩
  | 86 => ⟨S100000x32, .i1⟩
  | 87 => ⟨S_, .f32⟩
  | 88 => ⟨S_, .f32⟩
  | 89 => ⟨S100000x32, .f32⟩
  | 90 => ⟨S100000x32, .f32⟩
  | 91 => ⟨S_, .f32⟩
  | 92 => ⟨S100000, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096x32, .f32⟩
  | 109 => ⟨S4096x32, .f32⟩
  | 110 => ⟨S_, .f32⟩
  | 111 => ⟨S_, .f32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x32, .f32⟩
  | 121 => ⟨S4096x32, .f32⟩
  | 122 => ⟨S_, .f32⟩
  | 123 => ⟨S_, .f32⟩
  | 124 => ⟨S_, .f32⟩
  | 125 => ⟨S_, .i32⟩
  | 126 => ⟨S4096, .i32⟩
  | 127 => ⟨S4096, .i1⟩
  | _ => ⟨S4096, .i32⟩

abbrev hbmTy0_2 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x32, .f32⟩
  | 6 => ⟨S4096x32, .f32⟩
  | 7 => ⟨S_, .f32⟩
  | 8 => ⟨S_, .f32⟩
  | 9 => ⟨S_, .f32⟩
  | 10 => ⟨S_, .f32⟩
  | 11 => ⟨S_, .f32⟩
  | 12 => ⟨S32x64, .f32⟩
  | 13 => ⟨S_, .f32⟩
  | 14 => ⟨S_, .f32⟩
  | 15 => ⟨S32x64, .f32⟩
  | 16 => ⟨S_, .f32⟩
  | 17 => ⟨S_, .f32⟩
  | 18 => ⟨S_, .f32⟩
  | 19 => ⟨S_, .f32⟩
  | 20 => ⟨S_, .f32⟩
  | 21 => ⟨S50000x32, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x32, .f32⟩
  | 31 => ⟨S4096x32, .f32⟩
  | 32 => ⟨S_, .f32⟩
  | 33 => ⟨S4096, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x32, .f32⟩
  | 40 => ⟨S4096x32, .f32⟩
  | 41 => ⟨S50000x32, .f32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x32, .f32⟩
  | 51 => ⟨S4096x32, .f32⟩
  | 52 => ⟨S_, .f32⟩
  | 53 => ⟨S4096, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x32, .f32⟩
  | 60 => ⟨S4096x32, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x32, .f32⟩
  | 70 => ⟨S4096x32, .f32⟩
  | 71 => ⟨S_, .f32⟩
  | 72 => ⟨S4096, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x32, .f32⟩
  | 79 => ⟨S4096x32, .f32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S4096x32, .f32⟩
  | 89 => ⟨S4096x32, .f32⟩
  | 90 => ⟨S_, .f32⟩
  | 91 => ⟨S4096, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x32, .f32⟩
  | 98 => ⟨S4096x32, .f32⟩
  | 99 => ⟨S4096x32, .f32⟩
  | 100 => ⟨S_, .f32⟩
  | 101 => ⟨S4096, .f32⟩
  | 102 => ⟨S_, .f32⟩
  | 103 => ⟨S4096, .f32⟩
  | 104 => ⟨S4096, .f32⟩
  | 105 => ⟨S4096, .f32⟩
  | 106 => ⟨S32x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S4096, .f32⟩
  | 118 => ⟨S_, .f32⟩
  | 119 => ⟨S4096, .f32⟩
  | 120 => ⟨S4096, .f32⟩
  | 121 => ⟨S4096, .f32⟩
  | 122 => ⟨S4096, .f32⟩
  | 123 => ⟨S_, .f32⟩
  | 124 => ⟨S_, .f32⟩
  | 125 => ⟨S_, .f32⟩
  | 126 => ⟨S_, .f32⟩
  | 127 => ⟨S4096x32, .f32⟩
  | _ => ⟨S4096, .i32⟩

abbrev hbmTy0_3 (i : Nat) : BufTy := match i % 128 with
  | 0 => ⟨S_, .f32⟩
  | 1 => ⟨S4096, .f32⟩
  | 2 => ⟨S_, .f32⟩
  | 3 => ⟨S4096, .f32⟩
  | 4 => ⟨S4096, .f32⟩
  | 5 => ⟨S4096, .f32⟩
  | 6 => ⟨S32x4096, .f32⟩
  | 7 => ⟨S4096x4096, .f32⟩
  | 8 => ⟨S_, .f32⟩
  | 9 => ⟨S4096x4096, .f32⟩
  | 10 => ⟨S4096x4096, .f32⟩
  | 11 => ⟨S4096x4096, .f32⟩
  | 12 => ⟨S_, .f32⟩
  | 13 => ⟨S4096, .f32⟩
  | 14 => ⟨S_, .f32⟩
  | 15 => ⟨S4096, .f32⟩
  | 16 => ⟨S4096, .f32⟩
  | 17 => ⟨S4096, .f32⟩
  | 18 => ⟨S_, .f32⟩
  | 19 => ⟨S4096, .f32⟩
  | 20 => ⟨S4096, .f32⟩
  | 21 => ⟨S4096, .f32⟩
  | 22 => ⟨S4096, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_13 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_v67 : Ref sig .tc := ⟨.hbm, 111, rfl⟩
abbrev main_cst_15 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_16 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_v81 : Ref sig .tc := ⟨.hbm, 128, rfl⟩
abbrev main_cst_18 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_19 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_20 : Ref sig .tc := ⟨.hbm, 143, rfl⟩
abbrev main_v94 : Ref sig .tc := ⟨.hbm, 144, rfl⟩
abbrev main_v95 : Ref sig .tc := ⟨.hbm, 145, rfl⟩
abbrev main_c_21 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_22 : Ref sig .tc := ⟨.hbm, 152, rfl⟩
abbrev main_v101 : Ref sig .tc := ⟨.hbm, 153, rfl⟩
abbrev main_v102 : Ref sig .tc := ⟨.hbm, 154, rfl⟩
abbrev main_c_23 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_24 : Ref sig .tc := ⟨.hbm, 161, rfl⟩
abbrev main_v108 : Ref sig .tc := ⟨.hbm, 162, rfl⟩
abbrev main_v109 : Ref sig .tc := ⟨.hbm, 163, rfl⟩
abbrev main_c_25 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_26 : Ref sig .tc := ⟨.hbm, 171, rfl⟩
abbrev main_v116 : Ref sig .tc := ⟨.hbm, 172, rfl⟩
abbrev main_v117 : Ref sig .tc := ⟨.hbm, 173, rfl⟩
abbrev main_cst_27 : Ref sig .tc := ⟨.hbm, 174, rfl⟩
abbrev main_v118 : Ref sig .tc := ⟨.hbm, 175, rfl⟩
abbrev main_v119 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_v8 : Ref sig .tc := ⟨.hbm, 186, rfl⟩
abbrev main_call2_v9 : Ref sig .tc := ⟨.hbm, 187, rfl⟩
abbrev main_call2_v10 : Ref sig .tc := ⟨.hbm, 188, rfl⟩
abbrev main_call2_v11 : Ref sig .tc := ⟨.hbm, 189, rfl⟩
abbrev main_v120 : Ref sig .tc := ⟨.hbm, 190, rfl⟩
abbrev main_cst_28 : Ref sig .tc := ⟨.hbm, 191, rfl⟩
abbrev main_v121 : Ref sig .tc := ⟨.hbm, 192, rfl⟩
abbrev main_cst_29 : Ref sig .tc := ⟨.hbm, 193, rfl⟩
abbrev main_v122 : Ref sig .tc := ⟨.hbm, 194, rfl⟩
abbrev main_cst_30 : Ref sig .tc := ⟨.hbm, 195, rfl⟩
abbrev main_v123 : Ref sig .tc := ⟨.hbm, 196, rfl⟩
abbrev main_v124 : Ref sig .tc := ⟨.hbm, 197, rfl⟩
abbrev main_cst_31 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_cst_32 : Ref sig .tc := ⟨.hbm, 206, rfl⟩
abbrev main_v132 : Ref sig .tc := ⟨.hbm, 207, rfl⟩
abbrev main_v133 : Ref sig .tc := ⟨.hbm, 208, rfl⟩
abbrev main_call3_v0 : Ref sig .tc := ⟨.hbm, 209, rfl⟩
abbrev main_call3_cst : Ref sig .tc := ⟨.hbm, 210, rfl⟩
abbrev main_call3_v1 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_33 : Ref sig .tc := ⟨.hbm, 215, rfl⟩
abbrev main_call4_v0 : Ref sig .tc := ⟨.hbm, 216, rfl⟩
abbrev main_call4_v1 : Ref sig .tc := ⟨.hbm, 217, rfl⟩
abbrev main_v137 : Ref sig .tc := ⟨.hbm, 218, rfl⟩
abbrev main_cst_34 : Ref sig .tc := ⟨.hbm, 219, rfl⟩
abbrev main_v138 : Ref sig .tc := ⟨.hbm, 220, rfl⟩
abbrev main_cst_35 : Ref sig .tc := ⟨.hbm, 221, rfl⟩
abbrev main_v139 : Ref sig .tc := ⟨.hbm, 222, rfl⟩
abbrev main_cst_36 : Ref sig .tc := ⟨.hbm, 223, rfl⟩
abbrev main_v140 : Ref sig .tc := ⟨.hbm, 224, rfl⟩
abbrev main_cst_37 : Ref sig .tc := ⟨.hbm, 225, rfl⟩
abbrev main_v141 : Ref sig .tc := ⟨.hbm, 226, rfl⟩
abbrev main_v142 : Ref sig .tc := ⟨.hbm, 227, rfl⟩
abbrev main_c_38 : Ref sig .tc := ⟨.hbm, 228, rfl⟩
abbrev main_v143 : Ref sig .tc := ⟨.hbm, 229, rfl⟩
abbrev main_v144 : Ref sig .tc := ⟨.hbm, 230, rfl⟩
abbrev main_c_39 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_40 : Ref sig .tc := ⟨.hbm, 238, rfl⟩
abbrev main_v151 : Ref sig .tc := ⟨.hbm, 239, rfl⟩
abbrev main_c_41 : Ref sig .tc := ⟨.hbm, 240, rfl⟩
abbrev main_v152 : Ref sig .tc := ⟨.hbm, 241, rfl⟩
abbrev main_v153 : Ref sig .tc := ⟨.hbm, 242, rfl⟩
abbrev main_c_42 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_cst_43 : Ref sig .tc := ⟨.hbm, 250, rfl⟩
abbrev main_v160 : Ref sig .tc := ⟨.hbm, 251, rfl⟩
abbrev main_v161 : Ref sig .tc := ⟨.hbm, 252, rfl⟩
abbrev main_c_44 : Ref sig .tc := ⟨.hbm, 253, rfl⟩
abbrev main_v162 : Ref sig .tc := ⟨.hbm, 254, rfl⟩
abbrev main_v163 : Ref sig .tc := ⟨.hbm, 255, rfl⟩
abbrev main_c_45 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_46 : Ref sig .tc := ⟨.hbm, 263, rfl⟩
abbrev main_v170 : Ref sig .tc := ⟨.hbm, 264, rfl⟩
abbrev main_v171 : Ref sig .tc := ⟨.hbm, 265, rfl⟩
abbrev main_cst_47 : Ref sig .tc := ⟨.hbm, 266, rfl⟩
abbrev main_v172 : Ref sig .tc := ⟨.hbm, 267, rfl⟩
abbrev main_v173 : Ref sig .tc := ⟨.hbm, 268, rfl⟩
abbrev main_cst_48 : Ref sig .tc := ⟨.hbm, 269, rfl⟩
abbrev main_v174 : Ref sig .tc := ⟨.hbm, 270, rfl⟩
abbrev main_v175 : Ref sig .tc := ⟨.hbm, 271, rfl⟩
abbrev main_cst_49 : Ref sig .tc := ⟨.hbm, 272, rfl⟩
abbrev main_v176 : Ref sig .tc := ⟨.hbm, 273, rfl⟩
abbrev main_v177 : Ref sig .tc := ⟨.hbm, 274, rfl⟩
abbrev main_cst_50 : Ref sig .tc := ⟨.hbm, 275, rfl⟩
abbrev main_v178 : Ref sig .tc := ⟨.hbm, 276, rfl⟩
abbrev main_v179 : Ref sig .tc := ⟨.hbm, 277, rfl⟩
abbrev main_c_51 : Ref sig .tc := ⟨.hbm, 278, rfl⟩
abbrev main_v180 : Ref sig .tc := ⟨.hbm, 279, rfl⟩
abbrev main_v181 : Ref sig .tc := ⟨.hbm, 280, rfl⟩
abbrev main_c_52 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_call5_v0 : Ref sig .tc := ⟨.hbm, 287, rfl⟩
abbrev main_call5_cst : Ref sig .tc := ⟨.hbm, 288, rfl⟩
abbrev main_call5_v1 : Ref sig .tc := ⟨.hbm, 289, rfl⟩
abbrev main_call5_v2 : Ref sig .tc := ⟨.hbm, 290, rfl⟩
abbrev main_v187 : Ref sig .tc := ⟨.hbm, 291, rfl⟩
abbrev main_cst_53 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_c_54 : Ref sig .tc := ⟨.hbm, 298, rfl⟩
abbrev main_v193 : Ref sig .tc := ⟨.hbm, 299, rfl⟩
abbrev main_v194 : Ref sig .tc := ⟨.hbm, 300, rfl⟩
abbrev main_c_55 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_call6_v0 : Ref sig .tc := ⟨.hbm, 307, rfl⟩
abbrev main_call6_cst : Ref sig .tc := ⟨.hbm, 308, rfl⟩
abbrev main_call6_v1 : Ref sig .tc := ⟨.hbm, 309, rfl⟩
abbrev main_call6_v2 : Ref sig .tc := ⟨.hbm, 310, rfl⟩
abbrev main_v200 : Ref sig .tc := ⟨.hbm, 311, rfl⟩
abbrev main_cst_56 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_c_57 : Ref sig .tc := ⟨.hbm, 317, rfl⟩
abbrev main_v205 : Ref sig .tc := ⟨.hbm, 318, rfl⟩
abbrev main_v206 : Ref sig .tc := ⟨.hbm, 319, rfl⟩
abbrev main_c_58 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_call7_v0 : Ref sig .tc := ⟨.hbm, 326, rfl⟩
abbrev main_call7_cst : Ref sig .tc := ⟨.hbm, 327, rfl⟩
abbrev main_call7_v1 : Ref sig .tc := ⟨.hbm, 328, rfl⟩
abbrev main_call7_v2 : Ref sig .tc := ⟨.hbm, 329, rfl⟩
abbrev main_v212 : Ref sig .tc := ⟨.hbm, 330, rfl⟩
abbrev main_cst_59 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_c_60 : Ref sig .tc := ⟨.hbm, 336, rfl⟩
abbrev main_v217 : Ref sig .tc := ⟨.hbm, 337, rfl⟩
abbrev main_v218 : Ref sig .tc := ⟨.hbm, 338, rfl⟩
abbrev main_c_61 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_call8_v0 : Ref sig .tc := ⟨.hbm, 345, rfl⟩
abbrev main_call8_cst : Ref sig .tc := ⟨.hbm, 346, rfl⟩
abbrev main_call8_v1 : Ref sig .tc := ⟨.hbm, 347, rfl⟩
abbrev main_call8_v2 : Ref sig .tc := ⟨.hbm, 348, rfl⟩
abbrev main_v224 : Ref sig .tc := ⟨.hbm, 349, rfl⟩
abbrev main_cst_62 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_cst_63 : Ref sig .tc := ⟨.hbm, 356, rfl⟩
abbrev main_v230 : Ref sig .tc := ⟨.hbm, 357, rfl⟩
abbrev main_cst_64 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_cst_65 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_cst_66 : Ref sig .tc := ⟨.hbm, 368, rfl⟩
abbrev main_v239 : Ref sig .tc := ⟨.hbm, 369, rfl⟩
abbrev main_cst_67 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_cst_68 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_cst_69 : Ref sig .tc := ⟨.hbm, 379, rfl⟩
abbrev main_v247 : Ref sig .tc := ⟨.hbm, 380, rfl⟩
abbrev main_cst_70 : Ref sig .tc := ⟨.hbm, 381, rfl⟩
abbrev main_v248 : Ref sig .tc := ⟨.hbm, 382, rfl⟩
abbrev main_v249 : Ref sig .tc := ⟨.hbm, 383, rfl⟩
abbrev main_cst_71 : Ref sig .tc := ⟨.hbm, 384, rfl⟩
abbrev main_v250 : Ref sig .tc := ⟨.hbm, 385, rfl⟩
abbrev main_cst_72 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_cst_73 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_cst_74 : Ref sig .tc := ⟨.hbm, 396, rfl⟩
abbrev main_v259 : Ref sig .tc := ⟨.hbm, 397, rfl⟩
abbrev main_cst_75 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_cst_76 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_cst_77 : Ref sig .tc := ⟨.hbm, 407, rfl⟩
abbrev main_v267 : Ref sig .tc := ⟨.hbm, 408, rfl⟩
abbrev main_cst_78 : Ref sig .tc := ⟨.hbm, 409, rfl⟩
abbrev main_v268 : Ref sig .tc := ⟨.hbm, 410, rfl⟩
abbrev main_v269 : Ref sig .tc := ⟨.hbm, 411, rfl⟩
abbrev main_cst_79 : Ref sig .tc := ⟨.hbm, 412, rfl⟩
abbrev main_v270 : Ref sig .tc := ⟨.hbm, 413, rfl⟩

abbrev nD : Nat := 1
abbrev τ : Topo := Topo.v7x

variable {F : FTy → Type} [FloatOps F]
-- ==== Proof.Propagate.lean ====
/- The propagation the host runs before the first kernel: the two embedding tables stacked, and two hops of the
   normalized adjacency over them. The host's stretch is read back as these functions of the arguments. -/
module

public import proofs.«01_k».proof.Proof.Gen.KernelIdeal.Frame.Fold0
public import Idealize.ShloMosaic.Lib.StableHlo.RunClose
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- An edge end's node number, a negative one counted from the last node, as gather's column of indices. -/
def wrap (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- A node's degree: the number of edges that end there. -/
def degree (row : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 row)
    (broadcastInDim S1600000 ![] bcast_S_S1600000 (constant S_ .f32 0x3F800000#32))

/-- The degree to the power minus one half, a degree of zero taken as one. -/
def rootDegree (row : IVec S1600000 32) : FVec Ideal S100000 .f32 :=
  Host.powf (select (cmpf .ogt (degree row) (broadcastInDim S100000 ![] bcast_S_S100000 (constant S_ .f32 0x00000000#32)))
      (degree row) (broadcastInDim S100000 ![] bcast_S_S100000 (id (constant S_ .f32 0x3F800000#32))))
    (broadcastInDim S100000 ![] bcast_S_S100000 (constant S_ .f32 0xBF000000#32))

/-- An edge's weight: the product of its two ends' degree factors. -/
def weight (row col : IVec S1600000 32) : FVec Ideal S1600000 .f32 :=
  mulf (Host.gather gather_S100000_S1600000x1_S1600000_n_0_n_n_0_1_1 (rootDegree row) (wrap row))
    (Host.gather gather_S100000_S1600000x1_S1600000_n_0_n_n_0_1_1 (rootDegree row) (wrap col))

/-- The users' table above the items'. -/
def stacked (u i : FVec Ideal S50000x32 .f32) : FVec Ideal S100000x32 .f32 :=
  concatenate S100000x32 0 [⟨S50000x32, u⟩, ⟨S50000x32, i⟩] concatenates_S50000x32_S50000x32_S100000x32_d0

/-- One hop: every node sums its neighbours' rows by the edges' weights. -/
def hop (row col : IVec S1600000 32) (x : FVec Ideal S100000x32 .f32) : FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 row)
    (mulf (broadcastInDim S1600000x32 ![0, 1] bcast_S1600000x1_S1600000x32_0_1
        (broadcastInDim S1600000x1 ![0] bcast_S1600000_S1600000x1_0 (weight row col)))
      (Host.gather gather_S100000x32_S1600000x1_S1600000x32_1_0_n_n_0_1_132 x (wrap col)))

/-- The stacking, as the stretch spells it. -/
theorem stacked_eq : (fun a b : FVec Ideal S50000x32 .f32 =>
    concatenate S100000x32 0 [⟨S50000x32, a⟩, ⟨S50000x32, b⟩] concatenates_S50000x32_S50000x32_S100000x32_d0) = stacked := rfl

section
variable (m : (ℓ : Loc nD τ sig) → Buf (Elt Ideal) ℓ) (ρ : Dev nD → PrngReg) (c : Dev nD)

/-- The degrees the first stretch leaves. -/
theorem W1_degree : W1 m ρ c (Proc.devRef .tc main_v3) = degree (W0 m ρ c (Proc.devRef .tc main_arg3)) := by
  after_results_simp
  rfl

/-- Which of them are positive. -/
theorem W1_positive : W1 m ρ c (Proc.devRef .tc main_v5) = cmpf .ogt (degree (W0 m ρ c (Proc.devRef .tc main_arg3)))
    (broadcastInDim S100000 ![] bcast_S_S100000 (constant S_ .f32 0x00000000#32)) := by
  after_results_simp
  rfl

/-- The one that stands in for a degree of zero. -/
theorem W1_one : W1 m ρ c (Proc.devRef .tc main_cst_2) = (constant S_ .f32 0x3F800000#32 : FVec Ideal S_ .f32) := by
  after_results_simp

/-- The degrees with zeros replaced by one. -/
theorem W2_degree : W2 m ρ c (Proc.devRef .tc main_v6) = select (cmpf .ogt (degree (W0 m ρ c (Proc.devRef .tc main_arg3)))
    (broadcastInDim S100000 ![] bcast_S_S100000 (constant S_ .f32 0x00000000#32))) (degree (W0 m ρ c (Proc.devRef .tc main_arg3)))
    (broadcastInDim S100000 ![] bcast_S_S100000 (id (constant S_ .f32 0x3F800000#32))) := by
  have h3 := W1_degree m ρ c
  have h5 := W1_positive m ρ c
  have h2 := W1_one m ρ c
  show StableHlo.after hostOps0_1 (W1 m ρ c) (Proc.devRef .tc main_v6) = _
  generalize W1 m ρ c = V at h3 h5 h2 ⊢
  simp only [hostOps0_1, StableHlo.TRef.ternary, StableHlo.TRef.unary, StableHlo.TRef.toBuf, StableHlo.TRef.ofBuf, cast_eq]
  after_results_simp
  rw [h3, h5, h2]

/-- The stacked tables the third stretch leaves. -/
theorem W3_stacked : W3 m ρ c (Proc.devRef .tc main_v24)
    = stacked (m ((c : Thread nD τ).loc main_arg5)) (m ((c : Thread nD τ).loc main_arg6)) := by
  have h5 := W2_args m ρ c main_arg5 (by decide)
  have h6 := W2_args m ρ c main_arg6 (by decide)
  show StableHlo.after hostOps0_2 (W2 m ρ c) (Proc.devRef .tc main_v24) = _
  generalize W2 m ρ c = V at h5 h6 ⊢
  unfold hostOps0_2
  rw [stacked_eq]
  after_results_simp
  rw [h5, h6]

/-- The first hop. -/
theorem W3_hop1 : W3 m ρ c (Proc.devRef .tc main_v37)
    = hop (m ((c : Thread nD τ).loc main_arg3)) (m ((c : Thread nD τ).loc main_arg4))
        (stacked (m ((c : Thread nD τ).loc main_arg5)) (m ((c : Thread nD τ).loc main_arg6))) := by
  have h3 := W2_args m ρ c main_arg3 (by decide)
  have h4 := W2_args m ρ c main_arg4 (by decide)
  have h5 := W2_args m ρ c main_arg5 (by decide)
  have h6 := W2_args m ρ c main_arg6 (by decide)
  have hd := W2_degree m ρ c
  rw [W0_args m ρ c main_arg3 (by decide)] at hd
  show StableHlo.after hostOps0_2 (W2 m ρ c) (Proc.devRef .tc main_v37) = _
  generalize W2 m ρ c = V at h3 h4 h5 h6 hd ⊢
  unfold hostOps0_2
  rw [stacked_eq]
  after_results_simp
  rw [h3, h4, h5, h6, hd]
  rfl

/-- The second hop. -/
theorem W3_hop2 : W3 m ρ c (Proc.devRef .tc main_v50)
    = hop (m ((c : Thread nD τ).loc main_arg3)) (m ((c : Thread nD τ).loc main_arg4))
        (hop (m ((c : Thread nD τ).loc main_arg3)) (m ((c : Thread nD τ).loc main_arg4))
          (stacked (m ((c : Thread nD τ).loc main_arg5)) (m ((c : Thread nD τ).loc main_arg6)))) := by
  have h3 := W2_args m ρ c main_arg3 (by decide)
  have h4 := W2_args m ρ c main_arg4 (by decide)
  have h5 := W2_args m ρ c main_arg5 (by decide)
  have h6 := W2_args m ρ c main_arg6 (by decide)
  have hd := W2_degree m ρ c
  rw [W0_args m ρ c main_arg3 (by decide)] at hd
  show StableHlo.after hostOps0_2 (W2 m ρ c) (Proc.devRef .tc main_v50) = _
  generalize W2 m ρ c = V at h3 h4 h5 h6 hd ⊢
  unfold hostOps0_2
  rw [stacked_eq]
  after_results_simp
  rw [h3, h4, h5, h6, hd]
  rfl
end

end Cert.KernelIdeal.Value

end
-- ==== Proof.Spec.lean ====
/- The mathematics of the training loss, over the extended reals, row by row: what the tail of the propagation makes of
   one node's embedding, and what the losses make of the batch's rows. Neither program is named here; the kernel and the
   reference are each shown to compute these functions. -/
module

public import Idealize.ShloMosaic.Lib.Pointwise

@[expose] public section

noncomputable section

namespace Cert.Spec

open Idealize.ShloMosaic

/-- A row of 32 embedding coordinates. -/
abbrev Row := Fin 32 → EReal

/-- `softplus x`, as `max x 0 + log (1 + exp (-|x|))`. -/
def softplus (x : EReal) : EReal := max x 0 + Ideal.log1p (Ideal.exp (0 - FloatOps.absf (F := Ideal) (φ := .f32) x))

/-- The small constant added to the standard deviation and inside the contrastive loss. -/
abbrev small : EReal := Ideal.ofBits .f32 0x322BCC77#32

/-- A node's standard deviation at coordinate `d`: a linear layer (weights `W`, bias `b`) over the softplus of its first
    sixteen coordinates. -/
def std (W : Fin 32 → Fin 16 → EReal) (b : Row) (m : Row) (d : Fin 32) : EReal :=
  ∑ k : Fin 16, softplus (m ⟨k.val, Nat.lt_of_lt_of_le k.isLt (by decide)⟩) * W d k + b d + small

/-- A node's generated embedding: its mean plus noise times its standard deviation. -/
def gen (W : Fin 32 → Fin 16 → EReal) (b : Row) (m e : Row) (d : Fin 32) : EReal := m d + e d * std W b m d

/-- The logit of a row against intent `k`. -/
def logit (I : Fin 32 → Fin 64 → EReal) (m : Row) (k : Fin 64) : EReal := ∑ x, m x * I x k

/-- The largest logit of a row. -/
def top (I : Fin 32 → Fin 64 → EReal) (m : Row) : EReal :=
  max (Ideal.ofBits .f32 0xFF800000#32) (Finset.fold max (Ideal.ofBits .f32 0xFF800000#32) (logit I m) Finset.univ)

/-- A row's intent embedding: the intents averaged with the softmax of the row's logits. -/
def intent (I : Fin 32 → Fin 64 → EReal) (m : Row) (d : Fin 32) : EReal :=
  ∑ k, Ideal.div (Ideal.exp (logit I m k - top I m)) (∑ j, Ideal.exp (logit I m j - top I m)) * I d k

/-- A value, or zero where it is not finite. -/
def finite (x : EReal) : EReal :=
  Scalar.select (IntOp.ori (BitVec.ofBool (decide (FloatOps.absf (F := Ideal) (φ := .f32) x = Ideal.ofBits .f32 0x7F800000#32)))
    (BitVec.ofBool (decide (x ≠ x)))) 0 x

/-- One coordinate's Kullback–Leibler term, from its mean `m` and standard deviation `s`. -/
def kl (m s : EReal) : EReal :=
  finite (Ideal.ofBits .f32 0xBF000000#32 * (1 + Ideal.ofBits .f32 0x40000000#32 * s - m * m - Ideal.exp s * Ideal.exp s))

/-- A row divided by its Euclidean norm. -/
def unit (x : Row) (d : Fin 32) : EReal :=
  Ideal.div (x d) (max (Ideal.sqrt (∑ k, x k * x k)) (Ideal.ofBits .f32 0x2B8CBCCC#32))

/-- The similarity of two rows of unit length, over the temperature. -/
def sim (x y : Row) : EReal := Ideal.div (∑ k, x k * y k) (Ideal.ofBits .f32 0x3E4CCCCD#32)

/-- One sample's contrastive term: its row `x` against its own intent row `y` and against every sample's. -/
def contrast (x y : Row) (all : Fin 4096 → Row) : EReal :=
  0 - Ideal.log (Ideal.div (Ideal.exp (sim (unit x) (unit y))) (∑ n, Ideal.exp (sim (unit x) (unit (all n))) + small) + small)

/-- One sample's ranking term: softplus of the negative score less the positive score. -/
def rank (u p n : Row) : EReal := softplus (∑ k, u k * n k - ∑ k, u k * p k)

/-- The sum of a row's squares. -/
def squares (x : Row) : EReal := ∑ k, x k * x k

/-- The sum of the squares of an intent matrix. -/
def squaresI (I : Fin 32 → Fin 64 → EReal) : EReal := ∑ x, ∑ k, I x k * I x k

end Cert.Spec

end
-- ==== Proof.Model.lean ====
/- The training losses as functions of one step's data: the propagated embeddings, the noise, the linear layer, the
   intents, the embedding tables and the batch's sampled nodes. Both programs are shown to compute these four numbers. -/
module

public import proofs.«01_k».proof.Proof.Spec

@[expose] public section

noncomputable section

namespace Cert.Spec

open Idealize.ShloMosaic

/-- A user's place among all nodes: the users come first. -/
def lo (n : Fin 50000) : Fin 100000 := ⟨n.val, by have := n.isLt; omega⟩

/-- An item's place among all nodes: after the users. -/
def hi (n : Fin 50000) : Fin 100000 := ⟨50000 + n.val, by have := n.isLt; omega⟩

/-- One step's data. -/
structure Model where
  /-- every node's propagated embedding -/
  mean : Fin 100000 → Row
  /-- every node's noise -/
  noise : Fin 100000 → Row
  /-- the linear layer's weights -/
  weights : Fin 32 → Fin 16 → EReal
  /-- the linear layer's bias -/
  bias : Row
  /-- the users' intents -/
  intentU : Fin 32 → Fin 64 → EReal
  /-- the items' intents -/
  intentI : Fin 32 → Fin 64 → EReal
  /-- the users' table -/
  tableU : Fin 50000 → Row
  /-- the items' table -/
  tableI : Fin 50000 → Row
  /-- the sampled users -/
  user : Fin 4096 → Fin 50000
  /-- the sampled items the users chose -/
  pos : Fin 4096 → Fin 50000
  /-- the sampled items they did not choose -/
  neg : Fin 4096 → Fin 50000

namespace Model
variable (M : Model)

/-- A node's generated embedding. -/
def gen (n : Fin 100000) : Row := Spec.gen M.weights M.bias (M.mean n) (M.noise n)

/-- A node's Kullback–Leibler terms, added up. -/
def kl (n : Fin 100000) : EReal := ∑ d : Fin 32, Spec.kl (M.mean n d) (Spec.std M.weights M.bias (M.mean n) d)

/-- A sampled user's intent embedding. -/
def intU (s : Fin 4096) : Row := Spec.intent M.intentU (M.mean (lo (M.user s)))

/-- A sampled item's intent embedding. -/
def intI (s : Fin 4096) : Row := Spec.intent M.intentI (M.mean (hi (M.pos s)))

/-- The generative loss: the ranking terms' mean, and the weighted mean of the nodes' Kullback–Leibler terms. -/
def genLoss : EReal :=
  Ideal.div (∑ s : Fin 4096, rank (M.mean (lo (M.user s))) (M.mean (hi (M.pos s))) (M.mean (hi (M.neg s))))
      (Ideal.ofBits .f32 0x45800000#32)
    + Ideal.ofBits .f32 0x3C23D70A#32
      * Ideal.div ((∑ n : Fin 50000, M.kl (lo n)) + ∑ n : Fin 50000, M.kl (hi n)) (Ideal.ofBits .f32 0x47C35000#32)

/-- The contrastive loss: the users' terms' mean and the items', weighted. -/
def clLoss : EReal :=
  Ideal.ofBits .f32 0x3DCCCCCD#32
    * (Ideal.div (∑ s : Fin 4096, contrast (M.gen (lo (M.user s))) (M.intU s) M.intU) (Ideal.ofBits .f32 0x45800000#32)
      + Ideal.div (∑ s : Fin 4096, contrast (M.gen (hi (M.pos s))) (M.intI s) M.intI) (Ideal.ofBits .f32 0x45800000#32))

/-- The embedding regularizer: the sampled table rows' squares, weighted. -/
def embLoss : EReal :=
  Ideal.ofBits .f32 0x3727C5AC#32
    * ((∑ s : Fin 4096, squares (M.tableU (M.user s))) + (∑ s : Fin 4096, squares (M.tableI (M.pos s)))
      + ∑ s : Fin 4096, squares (M.tableI (M.neg s)))

/-- The intent regularizer: the intents' squares, weighted. -/
def intLoss : EReal := Ideal.ofBits .f32 0x3727C5AC#32 * (squaresI M.intentU + squaresI M.intentI)

end Model

end Cert.Spec

end
-- ==== Proof.TailBlock.lean ====
/- What one block of the tail kernels computes, at a row and a coordinate, in the terms of the specification. -/
module

public import proofs.«01_k».proof.Proof.Gen.KernelIdeal.Skeleton
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen

/-- The one position of a one-element block. -/
abbrev o11 : S1x1.Idx := ix2 (0 : Fin 1) (0 : Fin 1)

/-- A one-element block has no other position. -/
theorem eq_o11 (j : S1x1.Idx) : j = o11 := by
  funext a
  apply Fin.ext
  have h1 : S1x1.size a = 1 := by revert a; decide
  have h2 := (j a).isLt
  have h3 := (o11 a).isLt
  omega

/-- A row of the sum of three blocks. -/
abbrev sum3 (a b c : FVec Ideal S1000x32 .f32) (r : Fin 1000) : Spec.Row := fun x => a (ix2 r x) + b (ix2 r x) + c (ix2 r x)

variable (a b c e : FVec Ideal S1000x32 .f32) (w : FVec Ideal S16x32 .f32) (l : FVec Ideal S1x32 .f32)
  (I : FVec Ideal S32x64 .f32) (r : Fin 1000) (d : Fin 32)

/-- The block's mean: the three layers' sum. -/
theorem tail_mean : k0_pay2 (F := Ideal) a b c (ix2 r d) = a (ix2 r d) + b (ix2 r d) + c (ix2 r d) := by
  pointwise [k0_pay2]

/-- The block's standard deviation. -/
theorem tail_std : k0_pay3 (F := Ideal) a b c w l (ix2 r d)
    = Spec.std (fun d k => w (ix2 k d)) (fun d => l (ix2 (0 : Fin 1) d))
        (sum3 a b c r) d := by
  pointwise [k0_pay2, k0_pay3]
  simp only [ne_eq, not_true_eq_false, if_false]
  rfl

/-- The block's generated embedding. -/
theorem tail_gen : k0_pay4 (F := Ideal) a b c w l e (ix2 r d)
    = Spec.gen (fun d k => w (ix2 k d)) (fun d => l (ix2 (0 : Fin 1) d))
        (sum3 a b c r) (fun x => e (ix2 r x)) d := by
  pointwise [k0_pay4]
  rw [tail_mean, tail_std]
  rfl

/-- The block's intent embedding. -/
theorem tail_intent (m : FVec Ideal S1000x32 .f32) : k0_pay5 (F := Ideal) m I I (ix2 r d)
    = Spec.intent (fun x k => I (ix2 x k)) (fun x => m (ix2 r x)) d := by
  pointwise [k0_pay5]
  rfl

/-- The block's Kullback–Leibler terms. -/
theorem tail_kl (m s : FVec Ideal S1000x32 .f32) : k0_pay6 (F := Ideal) m s (ix2 r d)
    = Spec.kl (m (ix2 r d)) (s (ix2 r d)) := by
  pointwise [k0_pay6]
  rfl

/-! What a block computes is what the specification says of the node that row `r` of the block stands for, once the block's
    inputs at that row are the node's data. -/
section Of
variable {a b c e w l I r} {m n : Spec.Row} {W : Fin 32 → Fin 16 → EReal} {B : Spec.Row} {J : Fin 32 → Fin 64 → EReal}
  (hm : sum3 a b c r = m) (he : (fun x => (show EReal from e (ix2 r x))) = n)
  (hw : (fun d k => (show EReal from w (ix2 k d))) = W) (hl : (fun d => (show EReal from l (ix2 (0 : Fin 1) d))) = B)
  (hI : (fun x k => (show EReal from I (ix2 x k))) = J)

include hm in
/-- The node's mean, -/
theorem mean_of (d : Fin 32) : k0_pay2 (F := Ideal) a b c (ix2 r d) = m d := by rw [tail_mean, ← hm]
include hm hw hl in
/-- its standard deviation, -/
theorem std_of (d : Fin 32) : k0_pay3 (F := Ideal) a b c w l (ix2 r d) = Spec.std W B m d := by rw [tail_std, hm, ← hw, ← hl]
include hm he hw hl in
/-- its generated embedding, -/
theorem gen_of (d : Fin 32) : k0_pay4 (F := Ideal) a b c w l e (ix2 r d) = Spec.gen W B m n d := by
  rw [tail_gen, hm, ← he, ← hw, ← hl]
include hm hI in
/-- its intent embedding, -/
theorem intent_of (d : Fin 32) : k0_pay5 (F := Ideal) (k0_pay2 a b c) I I (ix2 r d) = Spec.intent J m d := by
  rw [tail_intent, ← hI]
  simp only [mean_of hm]
include hm hw hl in
/-- its Kullback–Leibler terms. -/
theorem kl_of (d : Fin 32) : k0_pay6 (F := Ideal) (k0_pay2 a b c) (k0_pay3 a b c w l) (ix2 r d)
    = Spec.kl (m d) (Spec.std W B m d) := by rw [tail_kl, mean_of hm, std_of hm hw hl]
end Of

/-- A position of a row block, coordinate by coordinate. -/
theorem tail_eta (y : S1000x32.Idx) : y = ix2 (y 0) (y 1) := by
  funext a; fin_cases a <;> rfl

/-- The running sum of the terms: the accumulator plus the block's sum. -/
theorem tail_acc (t : FVec Ideal S1000x32 .f32) (acc : FVec Ideal S1x1 .f32) (j : S1x1.Idx) :
    k0_pay1 (F := Ideal) t acc j = acc j + ∑ r : Fin 1000, ∑ d : Fin 32, t (ix2 r d) := by
  rw [eq_o11 j]
  pointwise [k0_pay1]

/-- The running sum starts at zero. -/
theorem tail_zero (j : S1x1.Idx) : k0_pay7 (F := Ideal) j = 0 := by pointwise [k0_pay7]

/-- The items' tail kernel is the users': the same text, value by value. -/
theorem tail_same : k1_pay1 (F := Ideal) = k0_pay1 ∧ k1_pay2 (F := Ideal) = k0_pay2 ∧ k1_pay3 (F := Ideal) = k0_pay3
    ∧ k1_pay4 (F := Ideal) = k0_pay4 ∧ k1_pay5 (F := Ideal) = k0_pay5 ∧ k1_pay6 (F := Ideal) = k0_pay6
    ∧ k1_pay7 (F := Ideal) = k0_pay7 := ⟨rfl, rfl, rfl, rfl, rfl, rfl, rfl⟩

end Cert.KernelIdeal.Value

end
-- ==== Proof.Tail0.lean ====
/- The users' tail region's results: the array of means, of generated embeddings, of intent embeddings, and the sum of
   the Kullback–Leibler terms, in the terms of the specification. -/
module

public import proofs.«01_k».proof.Proof.Gen.KernelIdeal.Frame.Region0
public import proofs.«01_k».proof.Proof.TailBlock
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- Which block each window takes at a step: the row windows the step's own, the others always the first. -/
theorem tail0_idx : ∀ t : Fin cfg0.N, (win0_0.index t = ![t.val, 0] ∧ win0_1.index t = ![t.val, 0] ∧ win0_2.index t = ![t.val, 0]
    ∧ win0_3.index t = ![t.val, 0]) ∧ (win0_4.index t = ![0, 0] ∧ win0_5.index t = ![0, 0] ∧ win0_6.index t = ![0, 0])
    ∧ (win0_7.index t = ![t.val, 0] ∧ win0_8.index t = ![t.val, 0] ∧ win0_9.index t = ![t.val, 0]) :=
  (by decide +kernel : ∀ t : Fin grid0.N, _)

variable (V : (c : Dev nD) → (b : Ref sig .tc) → Buf (Elt Ideal) ((c : Thread nD τ).loc b)) (c : Dev nD)

section Blocks
variable (t : Fin cfg0.N) (r : Fin 1000) (d : Fin 32) (h : t.val * 1000 + r.val < 50000)

/-- A row window's block holds the array's rows `1000 t … 1000 t + 999`: the first layer, -/
theorem tail0_x0 : iblk0 V c 0 t (ix2 r d) = V c main_v53 (ix2 ⟨t.val * 1000 + r.val, h⟩ d) := by
  obtain ⟨⟨e, -⟩, -⟩ := tail0_idx t; blk_ext [iblk0, e]
/-- the second layer, -/
theorem tail0_x1 : iblk0 V c 1 t (ix2 r d) = V c main_v54 (ix2 ⟨t.val * 1000 + r.val, h⟩ d) := by
  obtain ⟨⟨-, e, -⟩, -⟩ := tail0_idx t; blk_ext [iblk0, e]
/-- the third layer, -/
theorem tail0_x2 : iblk0 V c 2 t (ix2 r d) = V c main_v55 (ix2 ⟨t.val * 1000 + r.val, h⟩ d) := by
  obtain ⟨⟨-, -, e, -⟩, -⟩ := tail0_idx t; blk_ext [iblk0, e]
/-- the noise. -/
theorem tail0_eps : iblk0 V c 3 t (ix2 r d) = V c main_v56 (ix2 ⟨t.val * 1000 + r.val, h⟩ d) := by
  obtain ⟨⟨-, -, -, e⟩, -⟩ := tail0_idx t; blk_ext [iblk0, e]
/-- The other windows hold their arrays whole: the intents, -/
theorem tail0_intents : (iblk0 V c 4 t : FVec Ideal S32x64 .f32) = V c main_arg7 := by
  obtain ⟨-, ⟨e, -⟩, -⟩ := tail0_idx t; funext j; blk_ext [iblk0, e]
/-- the linear layer's weights, -/
theorem tail0_w : (iblk0 V c 5 t : FVec Ideal S16x32 .f32) = V c main_v51 := by
  obtain ⟨-, ⟨-, e, -⟩, -⟩ := tail0_idx t; funext j; blk_ext [iblk0, e]
/-- and its bias. -/
theorem tail0_b : (iblk0 V c 6 t : FVec Ideal S1x32 .f32) = V c main_v52 := by
  obtain ⟨-, ⟨-, -, e⟩, -⟩ := tail0_idx t; funext j; blk_ext [iblk0, e]
end Blocks

/-- A node's mean, as the region finds its three layers. -/
def mean0 (n : Fin 50000) (d : Fin 32) : EReal :=
  (show EReal from V c main_v53 (ix2 n d)) + (show EReal from V c main_v54 (ix2 n d)) + (show EReal from V c main_v55 (ix2 n d))
/-- The linear layer's weights. -/
def linw0 (d : Fin 32) (k : Fin 16) : EReal := V c main_v51 (ix2 k d)
/-- The linear layer's bias. -/
def linb0 (d : Fin 32) : EReal := V c main_v52 (ix2 (0 : Fin 1) d)
/-- The intents. -/
def ints0 (x : Fin 32) (k : Fin 64) : EReal := V c main_arg7 (ix2 x k)
/-- The noise. -/
def eps0 (n : Fin 50000) (d : Fin 32) : EReal := V c main_v56 (ix2 n d)

section Step
variable (t : Fin cfg0.N) (r : Fin 1000) (d : Fin 32)

/-- What a step leaves in the means' block. -/
theorem tail0_out7 : (outsAt0 V c t.val t.isLt).1 = k0_pay2 (F := Ideal) (iblk0 V c 0 t) (iblk0 V c 1 t) (iblk0 V c 2 t) := by
  by_cases h : t.val % 50 = 0
  · rw [outsAt0_A V c t h]; frame_out
  · rw [outsAt0_B V c t h]; frame_out

/-- What a step leaves in the generated embeddings' block. -/
theorem tail0_out8 : (outsAt0 V c t.val t.isLt).2.1 = k0_pay4 (F := Ideal) (iblk0 V c 0 t) (iblk0 V c 1 t) (iblk0 V c 2 t)
    (iblk0 V c 5 t) (iblk0 V c 6 t) (iblk0 V c 3 t) := by
  by_cases h : t.val % 50 = 0
  · rw [outsAt0_A V c t h]; frame_out
  · rw [outsAt0_B V c t h]; frame_out

/-- What a step leaves in the intent embeddings' block. -/
theorem tail0_out9 : (outsAt0 V c t.val t.isLt).2.2.1 = k0_pay5 (F := Ideal)
    (k0_pay2 (iblk0 V c 0 t) (iblk0 V c 1 t) (iblk0 V c 2 t)) (iblk0 V c 4 t) (iblk0 V c 4 t) := by
  by_cases h : t.val % 50 = 0
  · rw [outsAt0_A V c t h]; frame_out
  · rw [outsAt0_B V c t h]; frame_out
end Step

section Rows
variable (t : Fin cfg0.N) (r : Fin 1000) (d : Fin 32) (h : t.val * 1000 + r.val < 50000)

/-- A block's row of layer sums is the node's row of means, -/
theorem tail0_mean_row : sum3 (iblk0 V c 0 t) (iblk0 V c 1 t) (iblk0 V c 2 t) r = mean0 V c ⟨t.val * 1000 + r.val, h⟩ :=
  funext fun x => by simp only [sum3]; rw [tail0_x0 V c t r x h, tail0_x1 V c t r x h, tail0_x2 V c t r x h]; rfl
/-- its row of noise the node's. -/
theorem tail0_eps_row : (fun x => (show EReal from iblk0 V c 3 t (ix2 r x))) = eps0 V c ⟨t.val * 1000 + r.val, h⟩ :=
  funext fun x => tail0_eps V c t r x h
/-- Every block finds the linear layer's weights, -/
theorem tail0_linw : (fun d k => (show EReal from iblk0 V c 5 t (ix2 k d))) = linw0 V c := by rw [tail0_w]; rfl
/-- its bias -/
theorem tail0_linb : (fun d => (show EReal from iblk0 V c 6 t (ix2 (0 : Fin 1) d))) = linb0 V c := by rw [tail0_b]; rfl
/-- and the intents. -/
theorem tail0_ints_of : (fun x k => (show EReal from iblk0 V c 4 t (ix2 x k))) = ints0 V c := by rw [tail0_intents]; rfl
end Rows

/-- A step's rows stay inside the array. -/
theorem tail0_lt (t : Fin cfg0.N) (r : Fin 1000) : t.val * 1000 + r.val < 50000 := by
  have h : t.val < 50 := lt_of_lt_of_eq t.isLt N_0
  have := r.isLt
  omega

/-- The means' array. -/
theorem tail0_means : (dat0 V c).arrAt 7 cfg0.N = fun j : S50000x32.Idx => mean0 V c (j 0) (j 1) := by
  refine (dat0 V c).arrAt_eq_of_covers 7 _ (by decide +kernel) fun t hf y => ?_
  obtain ⟨-, -, e, -⟩ := tail0_idx t
  have hy : (win0_7.blk t).view.emb y = ix2 (⟨t.val * 1000 + (y 0).val, tail0_lt t (y 0)⟩ : Fin 50000) (y 1) := by
    blk_ext [e]
  blk_simp
  rw [after0_7, tail0_out7, hy]
  exact (congrArg _ (tail_eta y)).trans (mean_of (tail0_mean_row V c t (y 0) (tail0_lt t (y 0))) (y 1))

/-- The generated embeddings' array. -/
theorem tail0_gens : (dat0 V c).arrAt 8 cfg0.N = fun j : S50000x32.Idx =>
    Spec.gen (linw0 V c) (linb0 V c) (mean0 V c (j 0)) (eps0 V c (j 0)) (j 1) := by
  refine (dat0 V c).arrAt_eq_of_covers 8 _ (by decide +kernel) fun t hf y => ?_
  obtain ⟨-, -, -, e, -⟩ := tail0_idx t
  have hy : (win0_8.blk t).view.emb y = ix2 (⟨t.val * 1000 + (y 0).val, tail0_lt t (y 0)⟩ : Fin 50000) (y 1) := by
    blk_ext [e]
  blk_simp
  rw [after0_8, tail0_out8, hy]
  exact (congrArg _ (tail_eta y)).trans (gen_of (tail0_mean_row V c t (y 0) (tail0_lt t (y 0)))
    (tail0_eps_row V c t (y 0) (tail0_lt t (y 0))) (tail0_linw V c t) (tail0_linb V c t) (y 1))

/-- The intent embeddings' array. -/
theorem tail0_ints : (dat0 V c).arrAt 9 cfg0.N = fun j : S50000x32.Idx =>
    Spec.intent (ints0 V c) (mean0 V c (j 0)) (j 1) := by
  refine (dat0 V c).arrAt_eq_of_covers 9 _ (by decide +kernel) fun t hf y => ?_
  obtain ⟨-, -, -, -, e⟩ := tail0_idx t
  have hy : (win0_9.blk t).view.emb y = ix2 (⟨t.val * 1000 + (y 0).val, tail0_lt t (y 0)⟩ : Fin 50000) (y 1) := by
    blk_ext [e]
  blk_simp
  rw [after0_9, tail0_out9, hy]
  exact (congrArg _ (tail_eta y)).trans (intent_of (tail0_mean_row V c t (y 0) (tail0_lt t (y 0)))
    (tail0_ints_of V c t) (y 1))

/-- The last step of the grid. -/
abbrev tail0_last : Fin cfg0.N := ⟨49, by show 49 < grid0.N; rw [N_0]; decide⟩

/-- The steps' partial sums make up the sum over all nodes. -/
theorem tail0_total : (∑ t : Fin cfg0.N, ∑ r : Fin 1000, ∑ d : Fin 32,
      k0_pay6 (F := Ideal) (k0_pay2 (iblk0 V c 0 t) (iblk0 V c 1 t) (iblk0 V c 2 t))
        (k0_pay3 (iblk0 V c 0 t) (iblk0 V c 1 t) (iblk0 V c 2 t) (iblk0 V c 5 t) (iblk0 V c 6 t)) (ix2 r d))
    = ∑ n : Fin 50000, ∑ d : Fin 32, Spec.kl (mean0 V c n d) (Spec.std (linw0 V c) (linb0 V c) (mean0 V c n) d) := by
  refine Fin.sum_mul_add_congr fun s k hl => ?_
  simp only [kl_of (tail0_mean_row V c s k hl) (tail0_linw V c s) (tail0_linb V c s)]

/-- The summed Kullback–Leibler terms. -/
theorem tail0_kls : (dat0 V c).arrAt 10 cfg0.N = fun _ : S1x1.Idx =>
    ∑ n : Fin 50000, ∑ d : Fin 32, Spec.kl (mean0 V c n d) (Spec.std (linw0 V c) (linb0 V c) (mean0 V c n) d) := by
  refine (dat0 V c).arrAt_eq_of_after_last 10 tail0_last (by decide +kernel) _ fun j => ?_
  blk_simp
  rw [after0_10, Pipeline.eq_sum_fin_of_reset_step_apply_last (fun n h => (outsAt0 V c n h).2.2.2) 50 (fun _ => 0) _
    (fun t h j => by rw [outsAt0_A V c t h]; frame_out; rw [tail_acc, tail_zero])
    (fun t h j => by rw [outsAt0_B V c t h]; frame_out; rw [tail_acc])
    (le_of_eq N_0) tail0_last rfl j, zero_add]
  exact tail0_total V c

end Cert.KernelIdeal.Value

end
-- ==== Proof.Tail1.lean ====
/- The items' tail region's results: the array of means, of generated embeddings, of intent embeddings, and the sum of
   the Kullback–Leibler terms, in the terms of the specification. -/
module

public import proofs.«01_k».proof.Proof.Gen.KernelIdeal.Frame.Region1
public import proofs.«01_k».proof.Proof.TailBlock
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- Which block each window takes at a step: the row windows the step's own, the others always the first. -/
theorem tail1_idx : ∀ t : Fin cfg1.N, (win1_0.index t = ![t.val, 0] ∧ win1_1.index t = ![t.val, 0] ∧ win1_2.index t = ![t.val, 0]
    ∧ win1_3.index t = ![t.val, 0]) ∧ (win1_4.index t = ![0, 0] ∧ win1_5.index t = ![0, 0] ∧ win1_6.index t = ![0, 0])
    ∧ (win1_7.index t = ![t.val, 0] ∧ win1_8.index t = ![t.val, 0] ∧ win1_9.index t = ![t.val, 0]) :=
  (by decide +kernel : ∀ t : Fin grid1.N, _)

variable (V : (c : Dev nD) → (b : Ref sig .tc) → Buf (Elt Ideal) ((c : Thread nD τ).loc b)) (c : Dev nD)

section Blocks
variable (t : Fin cfg1.N) (r : Fin 1000) (d : Fin 32) (h : t.val * 1000 + r.val < 50000)

/-- A row window's block holds the array's rows `1000 t … 1000 t + 999`: the first layer, -/
theorem tail1_x0 : iblk1 V c 0 t (ix2 r d) = V c main_v58 (ix2 ⟨t.val * 1000 + r.val, h⟩ d) := by
  obtain ⟨⟨e, -⟩, -⟩ := tail1_idx t; blk_ext [iblk1, e]
/-- the second layer, -/
theorem tail1_x1 : iblk1 V c 1 t (ix2 r d) = V c main_v59 (ix2 ⟨t.val * 1000 + r.val, h⟩ d) := by
  obtain ⟨⟨-, e, -⟩, -⟩ := tail1_idx t; blk_ext [iblk1, e]
/-- the third layer, -/
theorem tail1_x2 : iblk1 V c 2 t (ix2 r d) = V c main_v60 (ix2 ⟨t.val * 1000 + r.val, h⟩ d) := by
  obtain ⟨⟨-, -, e, -⟩, -⟩ := tail1_idx t; blk_ext [iblk1, e]
/-- the noise. -/
theorem tail1_eps : iblk1 V c 3 t (ix2 r d) = V c main_v61 (ix2 ⟨t.val * 1000 + r.val, h⟩ d) := by
  obtain ⟨⟨-, -, -, e⟩, -⟩ := tail1_idx t; blk_ext [iblk1, e]
/-- The other windows hold their arrays whole: the intents, -/
theorem tail1_intents : (iblk1 V c 4 t : FVec Ideal S32x64 .f32) = V c main_arg8 := by
  obtain ⟨-, ⟨e, -⟩, -⟩ := tail1_idx t; funext j; blk_ext [iblk1, e]
/-- the linear layer's weights, -/
theorem tail1_w : (iblk1 V c 5 t : FVec Ideal S16x32 .f32) = V c main_v51 := by
  obtain ⟨-, ⟨-, e, -⟩, -⟩ := tail1_idx t; funext j; blk_ext [iblk1, e]
/-- and its bias. -/
theorem tail1_b : (iblk1 V c 6 t : FVec Ideal S1x32 .f32) = V c main_v52 := by
  obtain ⟨-, ⟨-, -, e⟩, -⟩ := tail1_idx t; funext j; blk_ext [iblk1, e]
end Blocks

/-- A node's mean, as the region finds its three layers. -/
def mean1 (n : Fin 50000) (d : Fin 32) : EReal :=
  (show EReal from V c main_v58 (ix2 n d)) + (show EReal from V c main_v59 (ix2 n d)) + (show EReal from V c main_v60 (ix2 n d))
/-- The linear layer's weights. -/
def linw1 (d : Fin 32) (k : Fin 16) : EReal := V c main_v51 (ix2 k d)
/-- The linear layer's bias. -/
def linb1 (d : Fin 32) : EReal := V c main_v52 (ix2 (0 : Fin 1) d)
/-- The intents. -/
def ints1 (x : Fin 32) (k : Fin 64) : EReal := V c main_arg8 (ix2 x k)
/-- The noise. -/
def eps1 (n : Fin 50000) (d : Fin 32) : EReal := V c main_v61 (ix2 n d)

section Step
variable (t : Fin cfg1.N) (r : Fin 1000) (d : Fin 32)

/-- What a step leaves in the means' block. -/
theorem tail1_out7 : (outsAt1 V c t.val t.isLt).1 = k0_pay2 (F := Ideal) (iblk1 V c 0 t) (iblk1 V c 1 t) (iblk1 V c 2 t) := by
  by_cases h : t.val % 50 = 0
  · rw [outsAt1_A V c t h]; frame_out; simp only [tail_same]
  · rw [outsAt1_B V c t h]; frame_out; simp only [tail_same]

/-- What a step leaves in the generated embeddings' block. -/
theorem tail1_out8 : (outsAt1 V c t.val t.isLt).2.1 = k0_pay4 (F := Ideal) (iblk1 V c 0 t) (iblk1 V c 1 t) (iblk1 V c 2 t)
    (iblk1 V c 5 t) (iblk1 V c 6 t) (iblk1 V c 3 t) := by
  by_cases h : t.val % 50 = 0
  · rw [outsAt1_A V c t h]; frame_out; simp only [tail_same]
  · rw [outsAt1_B V c t h]; frame_out; simp only [tail_same]

/-- What a step leaves in the intent embeddings' block. -/
theorem tail1_out9 : (outsAt1 V c t.val t.isLt).2.2.1 = k0_pay5 (F := Ideal)
    (k0_pay2 (iblk1 V c 0 t) (iblk1 V c 1 t) (iblk1 V c 2 t)) (iblk1 V c 4 t) (iblk1 V c 4 t) := by
  by_cases h : t.val % 50 = 0
  · rw [outsAt1_A V c t h]; frame_out; simp only [tail_same]
  · rw [outsAt1_B V c t h]; frame_out; simp only [tail_same]
end Step

section Rows
variable (t : Fin cfg1.N) (r : Fin 1000) (d : Fin 32) (h : t.val * 1000 + r.val < 50000)

/-- A block's row of layer sums is the node's row of means, -/
theorem tail1_mean_row : sum3 (iblk1 V c 0 t) (iblk1 V c 1 t) (iblk1 V c 2 t) r = mean1 V c ⟨t.val * 1000 + r.val, h⟩ :=
  funext fun x => by simp only [sum3]; rw [tail1_x0 V c t r x h, tail1_x1 V c t r x h, tail1_x2 V c t r x h]; rfl
/-- its row of noise the node's. -/
theorem tail1_eps_row : (fun x => (show EReal from iblk1 V c 3 t (ix2 r x))) = eps1 V c ⟨t.val * 1000 + r.val, h⟩ :=
  funext fun x => tail1_eps V c t r x h
/-- Every block finds the linear layer's weights, -/
theorem tail1_linw : (fun d k => (show EReal from iblk1 V c 5 t (ix2 k d))) = linw1 V c := by rw [tail1_w]; rfl
/-- its bias -/
theorem tail1_linb : (fun d => (show EReal from iblk1 V c 6 t (ix2 (0 : Fin 1) d))) = linb1 V c := by rw [tail1_b]; rfl
/-- and the intents. -/
theorem tail1_ints_of : (fun x k => (show EReal from iblk1 V c 4 t (ix2 x k))) = ints1 V c := by rw [tail1_intents]; rfl
end Rows

/-- A step's rows stay inside the array. -/
theorem tail1_lt (t : Fin cfg1.N) (r : Fin 1000) : t.val * 1000 + r.val < 50000 := by
  have h : t.val < 50 := lt_of_lt_of_eq t.isLt N_1
  have := r.isLt
  omega

/-- The means' array. -/
theorem tail1_means : (dat1 V c).arrAt 7 cfg1.N = fun j : S50000x32.Idx => mean1 V c (j 0) (j 1) := by
  refine (dat1 V c).arrAt_eq_of_covers 7 _ (by decide +kernel) fun t hf y => ?_
  obtain ⟨-, -, e, -⟩ := tail1_idx t
  have hy : (win1_7.blk t).view.emb y = ix2 (⟨t.val * 1000 + (y 0).val, tail1_lt t (y 0)⟩ : Fin 50000) (y 1) := by
    blk_ext [e]
  blk_simp
  rw [after1_7, tail1_out7, hy]
  exact (congrArg _ (tail_eta y)).trans (mean_of (tail1_mean_row V c t (y 0) (tail1_lt t (y 0))) (y 1))

/-- The generated embeddings' array. -/
theorem tail1_gens : (dat1 V c).arrAt 8 cfg1.N = fun j : S50000x32.Idx =>
    Spec.gen (linw1 V c) (linb1 V c) (mean1 V c (j 0)) (eps1 V c (j 0)) (j 1) := by
  refine (dat1 V c).arrAt_eq_of_covers 8 _ (by decide +kernel) fun t hf y => ?_
  obtain ⟨-, -, -, e, -⟩ := tail1_idx t
  have hy : (win1_8.blk t).view.emb y = ix2 (⟨t.val * 1000 + (y 0).val, tail1_lt t (y 0)⟩ : Fin 50000) (y 1) := by
    blk_ext [e]
  blk_simp
  rw [after1_8, tail1_out8, hy]
  exact (congrArg _ (tail_eta y)).trans (gen_of (tail1_mean_row V c t (y 0) (tail1_lt t (y 0)))
    (tail1_eps_row V c t (y 0) (tail1_lt t (y 0))) (tail1_linw V c t) (tail1_linb V c t) (y 1))

/-- The intent embeddings' array. -/
theorem tail1_ints : (dat1 V c).arrAt 9 cfg1.N = fun j : S50000x32.Idx =>
    Spec.intent (ints1 V c) (mean1 V c (j 0)) (j 1) := by
  refine (dat1 V c).arrAt_eq_of_covers 9 _ (by decide +kernel) fun t hf y => ?_
  obtain ⟨-, -, -, -, e⟩ := tail1_idx t
  have hy : (win1_9.blk t).view.emb y = ix2 (⟨t.val * 1000 + (y 0).val, tail1_lt t (y 0)⟩ : Fin 50000) (y 1) := by
    blk_ext [e]
  blk_simp
  rw [after1_9, tail1_out9, hy]
  exact (congrArg _ (tail_eta y)).trans (intent_of (tail1_mean_row V c t (y 0) (tail1_lt t (y 0)))
    (tail1_ints_of V c t) (y 1))

/-- The last step of the grid. -/
abbrev tail1_last : Fin cfg1.N := ⟨49, by show 49 < grid1.N; rw [N_1]; decide⟩

/-- The steps' partial sums make up the sum over all nodes. -/
theorem tail1_total : (∑ t : Fin cfg1.N, ∑ r : Fin 1000, ∑ d : Fin 32,
      k0_pay6 (F := Ideal) (k0_pay2 (iblk1 V c 0 t) (iblk1 V c 1 t) (iblk1 V c 2 t))
        (k0_pay3 (iblk1 V c 0 t) (iblk1 V c 1 t) (iblk1 V c 2 t) (iblk1 V c 5 t) (iblk1 V c 6 t)) (ix2 r d))
    = ∑ n : Fin 50000, ∑ d : Fin 32, Spec.kl (mean1 V c n d) (Spec.std (linw1 V c) (linb1 V c) (mean1 V c n) d) := by
  refine Fin.sum_mul_add_congr fun s k hl => ?_
  simp only [kl_of (tail1_mean_row V c s k hl) (tail1_linw V c s) (tail1_linb V c s)]

/-- The summed Kullback–Leibler terms. -/
theorem tail1_kls : (dat1 V c).arrAt 10 cfg1.N = fun _ : S1x1.Idx =>
    ∑ n : Fin 50000, ∑ d : Fin 32, Spec.kl (mean1 V c n d) (Spec.std (linw1 V c) (linb1 V c) (mean1 V c n) d) := by
  refine (dat1 V c).arrAt_eq_of_after_last 10 tail1_last (by decide +kernel) _ fun j => ?_
  blk_simp
  rw [after1_10, Pipeline.eq_sum_fin_of_reset_step_apply_last (fun n h => (outsAt1 V c n h).2.2.2) 50 (fun _ => 0) _
    (fun t h j => by rw [outsAt1_A V c t h]; frame_out; simp only [tail_same]; rw [tail_acc, tail_zero])
    (fun t h j => by rw [outsAt1_B V c t h]; frame_out; simp only [tail_same]; rw [tail_acc])
    (le_of_eq N_1) tail1_last rfl j, zero_add]
  exact tail1_total V c

end Cert.KernelIdeal.Value

end
-- ==== Proof.Data.lean ====
/- What the host hands the two tail kernels: the step's data in the terms of the model. -/
module

public import proofs.«01_k».proof.Proof.Propagate
public import proofs.«01_k».proof.Proof.Model
public import proofs.«01_k».proof.Proof.Tail0
public import proofs.«01_k».proof.Proof.Tail1

@[expose] public section

set_option maxRecDepth 16384

noncomputable section

namespace Cert.KernelIdeal.Value

open Idealize.ShloMosaic Idealize.ShloMosaic.TcCoe Idealize.SL.Sem
open Cert.KernelIdeal Cert.KernelIdeal.Gen

/-- Every node's propagated embedding: its table row and its two hops, added up. -/
def propagated (row col : IVec S1600000 32) (u i : FVec Ideal S50000x32 .f32) : FVec Ideal S100000x32 .f32 :=
  addf (addf (stacked u i) (hop row col (stacked u i))) (hop row col (hop row col (stacked u i)))

/-- The sampled nodes' numbers all lie in their table. -/
def InRange (a : IVec S4096 32) : Prop := ∀ s : Fin 4096, (a (ix1 s)).toNat < 50000

/-- The users' half of an array over all nodes. -/
theorem slice_lo (X : FVec Ideal S100000x32 .f32) (n : Fin 50000) (d : Fin 32) :
    extractStridedSlice S50000x32 ![0, 0] X slices_S100000x32_S50000x32_0_0 (ix2 n d) = X (ix2 (Spec.lo n) d) := by
  pointwise
  rfl

/-- The items' half. -/
theorem slice_hi (X : FVec Ideal S100000x32 .f32) (n : Fin 50000) (d : Fin 32) :
    extractStridedSlice S50000x32 ![50000, 0] X slices_S100000x32_S50000x32_50000_0 (ix2 n d) = X (ix2 (Spec.hi n) d) := by
  pointwise
  rfl

section
variable (m : (ℓ : Loc nD τ sig) → Buf (Elt Ideal) ℓ) (ρ : Dev nD → PrngReg) (c : Dev nD)

/-- The model the arguments describe. -/
def model (hU : InRange (m ((c : Thread nD τ).loc main_arg0))) (hP : InRange (m ((c : Thread nD τ).loc main_arg1)))
    (hN : InRange (m ((c : Thread nD τ).loc main_arg2))) : Spec.Model where
  mean n d := propagated (m ((c : Thread nD τ).loc main_arg3)) (m ((c : Thread nD τ).loc main_arg4))
    (m ((c : Thread nD τ).loc main_arg5)) (m ((c : Thread nD τ).loc main_arg6)) (ix2 n d)
  noise n d := (m ((c : Thread nD τ).loc main_arg11) : FVec Ideal S100000x32 .f32) (ix2 n d)
  weights d k := (m ((c : Thread nD τ).loc main_arg9) : FVec Ideal S32x16 .f32) (ix2 d k)
  bias d := (m ((c : Thread nD τ).loc main_arg10) : FVec Ideal S32 .f32) (ix1 d)
  intentU x k := (m ((c : Thread nD τ).loc main_arg7) : FVec Ideal S32x64 .f32) (ix2 x k)
  intentI x k := (m ((c : Thread nD τ).loc main_arg8) : FVec Ideal S32x64 .f32) (ix2 x k)
  tableU n d := (m ((c : Thread nD τ).loc main_arg5) : FVec Ideal S50000x32 .f32) (ix2 n d)
  tableI n d := (m ((c : Thread nD τ).loc main_arg6) : FVec Ideal S50000x32 .f32) (ix2 n d)
  user s := ⟨_, hU s⟩
  pos s := ⟨_, hP s⟩
  neg s := ⟨_, hN s⟩

/-- The users' halves of the three layers are slices of what the stretch computed before them: the first layer's, -/
theorem W3_half0 : W3 m ρ c (Proc.devRef .tc main_v53) = extractStridedSlice S50000x32 ![0, 0]
    (W3 m ρ c (Proc.devRef .tc main_v24) : FVec Ideal S100000x32 .f32) slices_S100000x32_S50000x32_0_0 := by
  show StableHlo.after hostOps0_2 (W2 m ρ c) (Proc.devRef .tc main_v53) = extractStridedSlice S50000x32 ![0, 0]
    (StableHlo.after hostOps0_2 (W2 m ρ c) (Proc.devRef .tc main_v24) : FVec Ideal S100000x32 .f32) _
  generalize W2 m ρ c = V
  unfold hostOps0_2
  rw [stacked_eq]
  after_results_simp
/-- the second's, -/
theorem W3_half1 : W3 m ρ c (Proc.devRef .tc main_v54) = extractStridedSlice S50000x32 ![0, 0]
    (W3 m ρ c (Proc.devRef .tc main_v37) : FVec Ideal S100000x32 .f32) slices_S100000x32_S50000x32_0_0 := by
  show StableHlo.after hostOps0_2 (W2 m ρ c) (Proc.devRef .tc main_v54) = extractStridedSlice S50000x32 ![0, 0]
    (StableHlo.after hostOps0_2 (W2 m ρ c) (Proc.devRef .tc main_v37) : FVec Ideal S100000x32 .f32) _
  generalize W2 m ρ c = V
  unfold hostOps0_2
  rw [stacked_eq]
  after_results_simp
/-- the third's. -/
theorem W3_half2 : W3 m ρ c (Proc.devRef .tc main_v55) = extractStridedSlice S50000x32 ![0, 0]
    (W3 m ρ c (Proc.devRef .tc main_v50) : FVec Ideal S100000x32 .f32) slices_S100000x32_S50000x32_0_0 := by
  show StableHlo.after hostOps0_2 (W2 m ρ c) (Proc.devRef .tc main_v55) = extractStridedSlice S50000x32 ![0, 0]
    (StableHlo.after hostOps0_2 (W2 m ρ c) (Proc.devRef .tc main_v50) : FVec Ideal S100000x32 .f32) _
  generalize W2 m ρ c = V
  unfold hostOps0_2
  rw [stacked_eq]
  after_results_simp
/-- The users' half of the noise, -/
theorem W3_noise : W3 m ρ c (Proc.devRef .tc main_v56) = extractStridedSlice S50000x32 ![0, 0]
    (m ((c : Thread nD τ).loc main_arg11) : FVec Ideal S100000x32 .f32) slices_S100000x32_S50000x32_0_0 := by
  have h := W2_args m ρ c main_arg11 (by decide)
  show StableHlo.after hostOps0_2 (W2 m ρ c) (Proc.devRef .tc main_v56) = _
  generalize W2 m ρ c = V at h ⊢
  after_results_simp
  rw [h]
/-- the weights transposed, -/
theorem W3_weights : W3 m ρ c (Proc.devRef .tc main_v51) = transpose S16x32 [1, 0]
    (m ((c : Thread nD τ).loc main_arg9) : FVec Ideal S32x16 .f32) transposes_S32x16_S16x32_1_0 := by
  have h := W2_args m ρ c main_arg9 (by decide)
  show StableHlo.after hostOps0_2 (W2 m ρ c) (Proc.devRef .tc main_v51) = _
  generalize W2 m ρ c = V at h ⊢
  after_results_simp
  rw [h]
/-- and the bias as a row. -/
theorem W3_bias : W3 m ρ c (Proc.devRef .tc main_v52) = shapeCast S1x32
    (m ((c : Thread nD τ).loc main_arg10) : FVec Ideal S32 .f32) shapeCasts_S32_S1x32 := by
  have h := W2_args m ρ c main_arg10 (by decide)
  show StableHlo.after hostOps0_2 (W2 m ρ c) (Proc.devRef .tc main_v52) = _
  generalize W2 m ρ c = V at h ⊢
  after_results_simp
  rw [h]
  rfl

variable (hU : InRange (m ((c : Thread nD τ).loc main_arg0))) (hP : InRange (m ((c : Thread nD τ).loc main_arg1)))
    (hN : InRange (m ((c : Thread nD τ).loc main_arg2)))

/-- The first tail kernel finds the users' means, -/
theorem mean0_eq (n : Fin 50000) : mean0 (V3 m ρ) c n = (model m c hU hP hN).mean (Spec.lo n) := by
  funext d
  unfold mean0
  rw [show V3 m ρ c main_v53 = _ from W3_half0 m ρ c, show V3 m ρ c main_v54 = _ from W3_half1 m ρ c,
    show V3 m ρ c main_v55 = _ from W3_half2 m ρ c, slice_lo, slice_lo, slice_lo, W3_stacked, W3_hop1, W3_hop2]
  rfl
/-- their noise, -/
theorem eps0_eq (n : Fin 50000) : eps0 (V3 m ρ) c n = (model m c hU hP hN).noise (Spec.lo n) := by
  funext d
  unfold eps0
  rw [show V3 m ρ c main_v56 = _ from W3_noise m ρ c, slice_lo]
  rfl
/-- the weights, -/
theorem linw0_eq : linw0 (V3 m ρ) c = (model m c hU hP hN).weights := by
  funext d k
  unfold linw0
  rw [show V3 m ρ c main_v51 = _ from W3_weights m ρ c]
  pointwise
  rfl
/-- the bias -/
theorem linb0_eq : linb0 (V3 m ρ) c = (model m c hU hP hN).bias := by
  funext d
  unfold linb0
  rw [show V3 m ρ c main_v52 = _ from W3_bias m ρ c]
  pointwise
  rfl
/-- and the users' intents. -/
theorem ints0_eq : ints0 (V3 m ρ) c = (model m c hU hP hN).intentU := by
  funext x k
  unfold ints0
  rw [show V3 m ρ c main_arg7 = _ from W3_args m ρ c main_arg7 (by decide)]
  rfl
end

end Cert.KernelIdeal.Value

end
-- ==== Proof.Tables.lean ====
/- The tables the host lays side by side for the gathers, and the tail kernels' results they are made of. -/
module

public import proofs.«01_k».proof.Proof.Data

@[expose] public section

set_option maxRecDepth 16384

noncomputable section

namespace Cert.KernelIdeal.Value

open Idealize.ShloMosaic Idealize.ShloMosaic.TcCoe Idealize.SL.Sem
open Cert.KernelIdeal Cert.KernelIdeal.Gen

/-- Four tables side by side. -/
def four (A B C D : FVec Ideal S50000x32 .f32) : FVec Ideal S50000x128 .f32 :=
  concatenate S50000x128 1 [⟨S50000x32, A⟩, ⟨S50000x32, B⟩, ⟨S50000x32, C⟩, ⟨S50000x32, D⟩]
    concatenates_S50000x32_S50000x32_S50000x32_S50000x32_S50000x128_d1

/-- Two tables side by side. -/
def two (A B : FVec Ideal S50000x32 .f32) : FVec Ideal S50000x64 .f32 :=
  concatenate S50000x64 1 [⟨S50000x32, A⟩, ⟨S50000x32, B⟩] concatenates_S50000x32_S50000x32_S50000x64_d1

/-- The host's pairing of two tables, as it is written there. -/
theorem two_eq : (fun a b : FVec Ideal S50000x32 .f32 =>
    concatenate S50000x64 1 [⟨S50000x32, a⟩, ⟨S50000x32, b⟩] concatenates_S50000x32_S50000x32_S50000x64_d1) = two := rfl

section
variable (A B C D : FVec Ideal S50000x32 .f32) (n : Fin 50000) (d : Fin 32)

/-- The first of four tables stands in columns 0–31, -/
theorem four_0 : four A B C D (ix2 n (⟨0 + d.val, by omega⟩ : Fin 128)) = A (ix2 n d) := by
  have := d.isLt
  unfold four
  pointwise
/-- the second in columns 32–63, -/
theorem four_1 : four A B C D (ix2 n (⟨32 + d.val, by omega⟩ : Fin 128)) = B (ix2 n d) := by
  have := d.isLt
  unfold four
  pointwise
/-- the third in columns 64–95, -/
theorem four_2 : four A B C D (ix2 n (⟨64 + d.val, by omega⟩ : Fin 128)) = C (ix2 n d) := by
  have := d.isLt
  unfold four
  pointwise
  rw [dif_neg (by simp; omega), dif_neg (by simp; omega), dif_pos (by omega)]
  congr 2
  exact Fin.ext (by simp only []; omega)
/-- the fourth in columns 96–127. -/
theorem four_3 : four A B C D (ix2 n (⟨96 + d.val, by omega⟩ : Fin 128)) = D (ix2 n d) := by
  have := d.isLt
  unfold four
  pointwise
  rw [dif_neg (by simp; omega), dif_neg (by simp; omega), dif_neg (by simp; omega)]
  congr 2
  exact Fin.ext (by simp only []; omega)
/-- The first of two tables stands in columns 0–31, -/
theorem two_0 : two A B (ix2 n (⟨0 + d.val, by omega⟩ : Fin 64)) = A (ix2 n d) := by
  have := d.isLt
  unfold two
  pointwise
/-- the second in columns 32–63. -/
theorem two_1 : two A B (ix2 n (⟨32 + d.val, by omega⟩ : Fin 64)) = B (ix2 n d) := by
  have := d.isLt
  unfold two
  pointwise
end

section
variable (m : (ℓ : Loc nD τ sig) → Buf (Elt Ideal) ℓ) (ρ : Dev nD → PrngReg) (c : Dev nD)

/-- The users' table for the gather: the first tail's three results and the users' embeddings. -/
theorem W7_users : W7 m ρ c (Proc.devRef .tc main_v66) = four (W6 m ρ c (Proc.devRef .tc main_v57_0))
    (W6 m ρ c (Proc.devRef .tc main_v57_1)) (W6 m ρ c (Proc.devRef .tc main_v57_2)) (W6 m ρ c (Proc.devRef .tc main_arg5)) := by
  show StableHlo.after hostOps2 (W6 m ρ c) (Proc.devRef .tc main_v66) = _
  generalize W6 m ρ c = V
  unfold hostOps2
  rw [two_eq]
  after_results_simp
  rfl
/-- The items' table: the second tail's three results and the items' embeddings. -/
theorem W7_items : W7 m ρ c (Proc.devRef .tc main_v67) = four (W6 m ρ c (Proc.devRef .tc main_v62_0))
    (W6 m ρ c (Proc.devRef .tc main_v62_1)) (W6 m ρ c (Proc.devRef .tc main_v62_2)) (W6 m ρ c (Proc.devRef .tc main_arg6)) := by
  show StableHlo.after hostOps2 (W6 m ρ c) (Proc.devRef .tc main_v67) = _
  generalize W6 m ρ c = V
  unfold hostOps2
  rw [two_eq]
  after_results_simp
  rfl
/-- The other items' table: the second tail's means and the items' embeddings. -/
theorem W7_others : W7 m ρ c (Proc.devRef .tc main_v68) = two (W6 m ρ c (Proc.devRef .tc main_v62_0))
    (W6 m ρ c (Proc.devRef .tc main_arg6)) := by
  show StableHlo.after hostOps2 (W6 m ρ c) (Proc.devRef .tc main_v68) = _
  generalize W6 m ρ c = V
  unfold hostOps2
  rw [two_eq]
  after_results_simp
/-- The sampled users as a column, -/
theorem W7_user : W7 m ρ c (Proc.devRef .tc main_v63) = shapeCast S4096x1
    (m ((c : Thread nD τ).loc main_arg0) : IVec S4096 32) shapeCasts_S4096_S4096x1 := by
  have h := W6_args m ρ c main_arg0 (by decide)
  show StableHlo.after hostOps2 (W6 m ρ c) (Proc.devRef .tc main_v63) = _
  generalize W6 m ρ c = V at h ⊢
  after_results_simp
  rw [h]
  rfl
/-- the sampled items, -/
theorem W7_pos : W7 m ρ c (Proc.devRef .tc main_v64) = shapeCast S4096x1
    (m ((c : Thread nD τ).loc main_arg1) : IVec S4096 32) shapeCasts_S4096_S4096x1 := by
  have h := W6_args m ρ c main_arg1 (by decide)
  show StableHlo.after hostOps2 (W6 m ρ c) (Proc.devRef .tc main_v64) = _
  generalize W6 m ρ c = V at h ⊢
  after_results_simp
  rw [h]
  rfl
/-- and the other sampled items. -/
theorem W7_neg : W7 m ρ c (Proc.devRef .tc main_v65) = shapeCast S4096x1
    (m ((c : Thread nD τ).loc main_arg2) : IVec S4096 32) shapeCasts_S4096_S4096x1 := by
  have h := W6_args m ρ c main_arg2 (by decide)
  show StableHlo.after hostOps2 (W6 m ρ c) (Proc.devRef .tc main_v65) = _
  generalize W6 m ρ c = V at h ⊢
  after_results_simp
  rw [h]
  rfl

/-- The items' halves of the three layers: the first layer's, -/
theorem W5_half0 : W5 m ρ c (Proc.devRef .tc main_v58) = extractStridedSlice S50000x32 ![50000, 0]
    (W3 m ρ c (Proc.devRef .tc main_v24) : FVec Ideal S100000x32 .f32) slices_S100000x32_S50000x32_50000_0 := by
  have h := W4_of m ρ c main_v24 (by decide)
  generalize W3 m ρ c (Proc.devRef .tc main_v24) = X at h ⊢
  show StableHlo.after hostOps1 (W4 m ρ c) (Proc.devRef .tc main_v58) = _
  generalize W4 m ρ c = V at h ⊢
  after_results_simp
  rw [h]
/-- the second's, -/
theorem W5_half1 : W5 m ρ c (Proc.devRef .tc main_v59) = extractStridedSlice S50000x32 ![50000, 0]
    (W3 m ρ c (Proc.devRef .tc main_v37) : FVec Ideal S100000x32 .f32) slices_S100000x32_S50000x32_50000_0 := by
  have h := W4_of m ρ c main_v37 (by decide)
  generalize W3 m ρ c (Proc.devRef .tc main_v37) = X at h ⊢
  show StableHlo.after hostOps1 (W4 m ρ c) (Proc.devRef .tc main_v59) = _
  generalize W4 m ρ c = V at h ⊢
  after_results_simp
  rw [h]
/-- the third's, -/
theorem W5_half2 : W5 m ρ c (Proc.devRef .tc main_v60) = extractStridedSlice S50000x32 ![50000, 0]
    (W3 m ρ c (Proc.devRef .tc main_v50) : FVec Ideal S100000x32 .f32) slices_S100000x32_S50000x32_50000_0 := by
  have h := W4_of m ρ c main_v50 (by decide)
  generalize W3 m ρ c (Proc.devRef .tc main_v50) = X at h ⊢
  show StableHlo.after hostOps1 (W4 m ρ c) (Proc.devRef .tc main_v60) = _
  generalize W4 m ρ c = V at h ⊢
  after_results_simp
  rw [h]
/-- and the items' half of the noise. -/
theorem W5_noise : W5 m ρ c (Proc.devRef .tc main_v61) = extractStridedSlice S50000x32 ![50000, 0]
    (m ((c : Thread nD τ).loc main_arg11) : FVec Ideal S100000x32 .f32) slices_S100000x32_S50000x32_50000_0 := by
  have h := W4_args m ρ c main_arg11 (by decide)
  show StableHlo.after hostOps1 (W4 m ρ c) (Proc.devRef .tc main_v61) = _
  generalize W4 m ρ c = V at h ⊢
  after_results_simp
  rw [h]

variable (hU : InRange (m ((c : Thread nD τ).loc main_arg0))) (hP : InRange (m ((c : Thread nD τ).loc main_arg1)))
    (hN : InRange (m ((c : Thread nD τ).loc main_arg2)))

/-- The second tail kernel finds the items' means, -/
theorem mean1_eq (n : Fin 50000) : mean1 (V5 m ρ) c n = (model m c hU hP hN).mean (Spec.hi n) := by
  funext d
  unfold mean1
  rw [show V5 m ρ c main_v58 = _ from W5_half0 m ρ c, show V5 m ρ c main_v59 = _ from W5_half1 m ρ c,
    show V5 m ρ c main_v60 = _ from W5_half2 m ρ c, slice_hi, slice_hi, slice_hi, W3_stacked, W3_hop1, W3_hop2]
  rfl
/-- their noise, -/
theorem eps1_eq (n : Fin 50000) : eps1 (V5 m ρ) c n = (model m c hU hP hN).noise (Spec.hi n) := by
  funext d
  unfold eps1
  rw [show V5 m ρ c main_v61 = _ from W5_noise m ρ c, slice_hi]
  rfl
/-- the weights, -/
theorem linw1_eq : linw1 (V5 m ρ) c = (model m c hU hP hN).weights := by
  rw [← linw0_eq m ρ c]
  funext d k
  unfold linw1 linw0
  rw [show V5 m ρ c main_v51 = V3 m ρ c main_v51 from
    (W5_of m ρ c main_v51 (by decide)).trans (W4_of m ρ c main_v51 (by decide))]
/-- the bias -/
theorem linb1_eq : linb1 (V5 m ρ) c = (model m c hU hP hN).bias := by
  rw [← linb0_eq m ρ c]
  funext d
  unfold linb1 linb0
  rw [show V5 m ρ c main_v52 = V3 m ρ c main_v52 from
    (W5_of m ρ c main_v52 (by decide)).trans (W4_of m ρ c main_v52 (by decide))]
/-- and the items' intents. -/
theorem ints1_eq : ints1 (V5 m ρ) c = (model m c hU hP hN).intentI := by
  funext x k
  unfold ints1
  rw [show V5 m ρ c main_arg8 = _ from W5_args m ρ c main_arg8 (by decide)]
  rfl

/-- The first tail leaves the users' means, -/
theorem W6_means0 (n : Fin 50000) (d : Fin 32) : (W6 m ρ c (Proc.devRef .tc main_v57_0) : FVec Ideal S50000x32 .f32) (ix2 n d)
    = (model m c hU hP hN).mean (Spec.lo n) d := by
  rw [W6_of m ρ c main_v57_0 (by decide), W5_of m ρ c main_v57_0 (by decide)]
  refine (congrFun ((W4_arr m ρ c 7).trans (tail0_means (V3 m ρ) c)) (ix2 n d)).trans ?_
  rw [← mean0_eq m ρ c hU hP hN]
  rfl
/-- their generated embeddings, -/
theorem W6_gens0 (n : Fin 50000) (d : Fin 32) : (W6 m ρ c (Proc.devRef .tc main_v57_1) : FVec Ideal S50000x32 .f32) (ix2 n d)
    = (model m c hU hP hN).gen (Spec.lo n) d := by
  rw [W6_of m ρ c main_v57_1 (by decide), W5_of m ρ c main_v57_1 (by decide)]
  refine (congrFun ((W4_arr m ρ c 8).trans (tail0_gens (V3 m ρ) c)) (ix2 n d)).trans ?_
  unfold Spec.Model.gen
  rw [← mean0_eq m ρ c hU hP hN, ← eps0_eq m ρ c hU hP hN, ← linw0_eq m ρ c hU hP hN, ← linb0_eq m ρ c hU hP hN]
  rfl
/-- their intent embeddings, -/
theorem W6_ints0 (n : Fin 50000) (d : Fin 32) : (W6 m ρ c (Proc.devRef .tc main_v57_2) : FVec Ideal S50000x32 .f32) (ix2 n d)
    = Spec.intent (model m c hU hP hN).intentU ((model m c hU hP hN).mean (Spec.lo n)) d := by
  rw [W6_of m ρ c main_v57_2 (by decide), W5_of m ρ c main_v57_2 (by decide)]
  refine (congrFun ((W4_arr m ρ c 9).trans (tail0_ints (V3 m ρ) c)) (ix2 n d)).trans ?_
  rw [← mean0_eq m ρ c hU hP hN, ← ints0_eq m ρ c hU hP hN]
  rfl
/-- and the sum of their Kullback–Leibler terms. -/
theorem W6_kls0 : (W6 m ρ c (Proc.devRef .tc main_v57_3) : FVec Ideal S1x1 .f32)
    = fun _ => ∑ n : Fin 50000, (model m c hU hP hN).kl (Spec.lo n) := by
  rw [W6_of m ρ c main_v57_3 (by decide), W5_of m ρ c main_v57_3 (by decide)]
  refine ((W4_arr m ρ c 10).trans (tail0_kls (V3 m ρ) c)).trans ?_
  unfold Spec.Model.kl
  simp only [mean0_eq m ρ c hU hP hN, linw0_eq m ρ c hU hP hN, linb0_eq m ρ c hU hP hN]
  rfl
/-- The second tail leaves the items' means, -/
theorem W6_means1 (n : Fin 50000) (d : Fin 32) : (W6 m ρ c (Proc.devRef .tc main_v62_0) : FVec Ideal S50000x32 .f32) (ix2 n d)
    = (model m c hU hP hN).mean (Spec.hi n) d := by
  refine (congrFun ((W6_arr m ρ c 7).trans (tail1_means (V5 m ρ) c)) (ix2 n d)).trans ?_
  rw [← mean1_eq m ρ c hU hP hN]
  rfl
/-- their generated embeddings, -/
theorem W6_gens1 (n : Fin 50000) (d : Fin 32) : (W6 m ρ c (Proc.devRef .tc main_v62_1) : FVec Ideal S50000x32 .f32) (ix2 n d)
    = (model m c hU hP hN).gen (Spec.hi n) d := by
  refine (congrFun ((W6_arr m ρ c 8).trans (tail1_gens (V5 m ρ) c)) (ix2 n d)).trans ?_
  unfold Spec.Model.gen
  rw [← mean1_eq m ρ c hU hP hN, ← eps1_eq m ρ c hU hP hN, ← linw1_eq m ρ c hU hP hN, ← linb1_eq m ρ c hU hP hN]
  rfl
/-- their intent embeddings, -/
theorem W6_ints1 (n : Fin 50000) (d : Fin 32) : (W6 m ρ c (Proc.devRef .tc main_v62_2) : FVec Ideal S50000x32 .f32) (ix2 n d)
    = Spec.intent (model m c hU hP hN).intentI ((model m c hU hP hN).mean (Spec.hi n)) d := by
  refine (congrFun ((W6_arr m ρ c 9).trans (tail1_ints (V5 m ρ) c)) (ix2 n d)).trans ?_
  rw [← mean1_eq m ρ c hU hP hN, ← ints1_eq m ρ c hU hP hN]
  rfl
/-- and the sum of their Kullback–Leibler terms. -/
theorem W6_kls1 : (W6 m ρ c (Proc.devRef .tc main_v62_3) : FVec Ideal S1x1 .f32)
    = fun _ => ∑ n : Fin 50000, (model m c hU hP hN).kl (Spec.hi n) := by
  refine ((W6_arr m ρ c 10).trans (tail1_kls (V5 m ρ) c)).trans ?_
  unfold Spec.Model.kl
  simp only [mean1_eq m ρ c hU hP hN, linw1_eq m ρ c hU hP hN, linb1_eq m ρ c hU hP hN]
  rfl
end

end Cert.KernelIdeal.Value

end
-- ==== Proof.OneHot.lean ====
/- The one-hot row selection of the gather kernels, as arithmetic over the extended reals: a row of zeros with a
   single one, contracted with a table's column, is the entry the index names. -/
module

public import Idealize.ShloMosaic.Lib.Pointwise
public import Idealize.ShloMosaic.Lib.Pipeline.ValueKit

@[expose] public section

set_option maxRecDepth 16384

noncomputable section

namespace Cert.OneHot

open Idealize.ShloMosaic

/-- The comparison of an index word with a column number, converted to a float, is one where they agree and zero
    elsewhere. -/
theorem hot (a w : BitVec 32) :
    (FloatOps.sitofp (F := Ideal) .f32 (BitVec.setWidth 32 (IntOp.cmpi .eq a w)) : EReal) = if a = w then 1 else 0 := by
  by_cases h : a = w
  · rw [if_pos h]
    have e : BitVec.setWidth 32 (IntOp.cmpi .eq a w) = 1#32 := by
      simp [IntOp.cmpi, h]
    rw [e]
    show (((1#32 : BitVec 32).toInt : ℝ) : EReal) = 1
    simp
  · rw [if_neg h]
    have e : BitVec.setWidth 32 (IntOp.cmpi .eq a w) = 0#32 := by
      have e' : (a == w) = false := by simpa using h
      simp [IntOp.cmpi, e']
    rw [e]
    show (((0#32 : BitVec 32).toInt : ℝ) : EReal) = 0
    simp

/-- The column number a gather kernel computes at step `i`, lane `x`, is the word of `i * 400 + x`. -/
theorem col (i x : ℕ) :
    IntOp.addi (Scalar.muli (BitVec.ofNat 32 i) 400#32) (BitVec.ofNat 32 x) = BitVec.ofNat 32 (i * 400 + x) := by
  show BitVec.ofNat 32 i * 400#32 + BitVec.ofNat 32 x = _
  apply BitVec.eq_of_toNat_eq
  simp [BitVec.toNat_add, BitVec.toNat_mul, BitVec.toNat_ofNat, Nat.add_mod, Nat.mul_mod]

/-- A one-hot row contracted with a column picks the entry that the index word names. -/
theorem pick {N : ℕ} (hN : N ≤ 2 ^ 32) (a : BitVec 32) (h : a.toNat < N) (f : Fin N → EReal) :
    ∑ n : Fin N, (if a = BitVec.ofNat 32 n.val then (1 : EReal) else 0) * f n = f ⟨a.toNat, h⟩ := by
  rw [Finset.sum_eq_single (⟨a.toNat, h⟩ : Fin N)]
  · simp
  · intro n _ hn
    rw [if_neg, zero_mul]
    rintro rfl
    apply hn
    apply Fin.ext
    show n.val = (BitVec.ofNat 32 n.val).toNat
    rw [BitVec.toNat_ofNat, Nat.mod_eq_of_lt (by have := n.isLt; omega)]
  · intro hn
    exact absurd (Finset.mem_univ _) hn

/-- A one-hot row contracted with a column of 50000 entries, 400 entries at a step: the steps' contractions are one
    contraction with the whole column. -/
theorem blocks {S : ℕ} (hS : 50000 = S * 400) (a : BitVec 32) (f : Fin 50000 → EReal) (word : Fin S → BitVec 32)
    (step : Fin S → ℕ) (blk : Fin S → Fin 400 → EReal) (hw : ∀ s, word s = a) (hs : ∀ s, step s = s.val)
    (hb : ∀ (s : Fin S) (k : Fin 400) (h : s.val * 400 + k.val < 50000), blk s k = f ⟨s.val * 400 + k.val, h⟩) :
    ∑ s : Fin S, ∑ k : Fin 400, (if word s = BitVec.ofNat 32 (step s * 400 + k.val) then (1 : EReal) else 0) * blk s k
    = ∑ n : Fin 50000, (if a = BitVec.ofNat 32 n.val then (1 : EReal) else 0) * f n := by
  refine Fin.sum_mul_add_congr (hL := hS) fun s k hl => ?_
  rw [hw, hs, hb s k hl]

end Cert.OneHot

end
-- ==== Proof.Gather2.lean ====
/- The first gather region's result: the user table's rows at the indices. -/
module

public import proofs.«01_k».proof.Proof.Gen.KernelIdeal.Frame.Region2
public import proofs.«01_k».proof.Proof.OneHot
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- The zero fill of the accumulator. -/
theorem gather2_zero (j) : k2_pay1 (F := Ideal) j = 0 := by pointwise [k2_pay1]

/-- One step of the gather: the accumulator plus the one-hot block contracted with the table's block. -/
theorem gather2_step (i : grid2.Coords) (ids : IVec S4096x1 32) (acc : FVec Ideal S4096x128 .f32)
    (tab : FVec Ideal S400x128 .f32) (j : S4096x128.Idx) :
    k2_pay2 (F := Ideal) i ids acc tab j = acc j + ∑ k : Fin 400,
      (if ids (ix2 (j 0) 0) = BitVec.ofNat 32 ((i 0).val * 400 + k.val) then (1 : EReal) else 0) * tab (ix2 k (j 1)) := by
  pointwise [k2_pay2]
  simp only [OneHot.hot, OneHot.col]

/-- Which block each window takes at a step: the table's window the step's own, the others always the first; and the step's
    number is its grid coordinate. -/
theorem gather2_idx : ∀ t : Fin cfg2.N, win2_0.index t = ![0, 0] ∧ win2_1.index t = ![t.val, 0] ∧ win2_2.index t = ![0, 0]
    ∧ (grid2.coords t 0).val = t.val :=
  (by decide +kernel : ∀ t : Fin grid2.N, _)

variable (V : (c : Dev nD) → (b : Ref sig .tc) → Buf (Elt Ideal) ((c : Thread nD τ).loc b))

/-- Every block of the index window is the whole index array. -/
theorem gather2_ids (c : Dev nD) (t : Fin cfg2.N) (b : Fin 4096) :
    iblk2 V c 0 t (ix2 b (0 : Fin 1)) = V c main_v63 (ix2 b (0 : Fin 1)) := by
  obtain ⟨e0, -, -, -⟩ := gather2_idx t
  blk_ext [iblk2, e0]

/-- Block `t` of the table window is the table's rows `400 t … 400 t + 399`. -/
theorem gather2_tab (c : Dev nD) (t : Fin cfg2.N) (k : Fin 400) (d : Fin 128) (h : t.val * 400 + k.val < 50000) :
    iblk2 V c 1 t (ix2 k d) = V c main_v66 (ix2 ⟨t.val * 400 + k.val, h⟩ d) := by
  obtain ⟨-, e1, -, -⟩ := gather2_idx t
  blk_ext [iblk2, e1]

/-- The 125 steps' contractions with 400 rows each are one contraction with the table's 50000 rows. -/
theorem gather2_total (c : Dev nD) (b : Fin 4096) (d : Fin 128) :
    (∑ t : Fin cfg2.N, ∑ k : Fin 400,
      (if iblk2 V c 0 t (ix2 b (0 : Fin 1)) = BitVec.ofNat 32 ((grid2.coords t 0).val * 400 + k.val) then (1 : EReal) else 0)
        * (show EReal from iblk2 V c 1 t (ix2 k d)) : EReal)
    = ∑ n : Fin 50000, (if V c main_v63 (ix2 b (0 : Fin 1)) = BitVec.ofNat 32 n.val then (1 : EReal) else 0)
      * (show EReal from V c main_v66 (ix2 n d)) := by
  exact OneHot.blocks (by rw [show cfg2.N = grid2.N from rfl, N_2]) _ _ (fun t => iblk2 V c 0 t (ix2 b (0 : Fin 1))) (fun t => (grid2.coords t 0).val)
    (fun t k => iblk2 V c 1 t (ix2 k d)) (fun t => gather2_ids V c t b) (fun t => (gather2_idx t).2.2.2)
    (fun t k h => gather2_tab V c t k d h)

/-- The last step of the grid. -/
abbrev gather2_last : Fin cfg2.N := ⟨124, by show 124 < grid2.N; rw [N_2]; decide⟩

/-- The region's result: row `b` is the one-hot row of the index word `b` contracted with the table. -/
theorem gather2_array (c : Dev nD) : (dat2 V c).arrAt 2 cfg2.N = fun j : S4096x128.Idx =>
    (∑ n : Fin 50000, (if V c main_v63 (ix2 (j 0) (0 : Fin 1)) = BitVec.ofNat 32 n.val then (1 : EReal) else 0)
      * (show EReal from V c main_v66 (ix2 n (j 1))) : EReal) := by
  refine (dat2 V c).arrAt_eq_of_after_last 2 gather2_last (by decide +kernel) _ fun j => ?_
  blk_simp
  rw [after2_2, Pipeline.eq_sum_fin_of_reset_step_apply_last (fun n h => outsAt2 V c n h) 125 (fun _ => 0) _
    (fun t h j => by rw [outsAt2_A V c t h]; frame_out; rw [gather2_step, gather2_zero])
    (fun t h j => by rw [outsAt2_B V c t h]; frame_out; rw [gather2_step])
    (le_of_eq N_2) gather2_last rfl j, zero_add]
  exact gather2_total V c (j 0) (j 1)

end Cert.KernelIdeal.Value

end
-- ==== Proof.Gather3.lean ====
/- The second gather region's result: the item table's rows at the indices. -/
module

public import proofs.«01_k».proof.Proof.Gen.KernelIdeal.Frame.Region3
public import proofs.«01_k».proof.Proof.Gather2
public import proofs.«01_k».proof.Proof.OneHot
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- This kernel's body is the first gather's: the same text, value by value. -/
theorem gather3_same : k3_pay1 (F := Ideal) = k2_pay1 ∧ k3_pay2 (F := Ideal) = k2_pay2 := ⟨rfl, rfl⟩

/-- Which block each window takes at a step: the table's window the step's own, the others always the first; and the step's
    number is its grid coordinate. -/
theorem gather3_idx : ∀ t : Fin cfg3.N, win3_0.index t = ![0, 0] ∧ win3_1.index t = ![t.val, 0] ∧ win3_2.index t = ![0, 0]
    ∧ (grid3.coords t 0).val = t.val :=
  (by decide +kernel : ∀ t : Fin grid3.N, _)

variable (V : (c : Dev nD) → (b : Ref sig .tc) → Buf (Elt Ideal) ((c : Thread nD τ).loc b))

/-- Every block of the index window is the whole index array. -/
theorem gather3_ids (c : Dev nD) (t : Fin cfg3.N) (b : Fin 4096) :
    iblk3 V c 0 t (ix2 b (0 : Fin 1)) = V c main_v64 (ix2 b (0 : Fin 1)) := by
  obtain ⟨e0, -, -, -⟩ := gather3_idx t
  blk_ext [iblk3, e0]

/-- Block `t` of the table window is the table's rows `400 t … 400 t + 399`. -/
theorem gather3_tab (c : Dev nD) (t : Fin cfg3.N) (k : Fin 400) (d : Fin 128) (h : t.val * 400 + k.val < 50000) :
    iblk3 V c 1 t (ix2 k d) = V c main_v67 (ix2 ⟨t.val * 400 + k.val, h⟩ d) := by
  obtain ⟨-, e1, -, -⟩ := gather3_idx t
  blk_ext [iblk3, e1]

/-- The 125 steps' contractions with 400 rows each are one contraction with the table's 50000 rows. -/
theorem gather3_total (c : Dev nD) (b : Fin 4096) (d : Fin 128) :
    (∑ t : Fin cfg3.N, ∑ k : Fin 400,
      (if iblk3 V c 0 t (ix2 b (0 : Fin 1)) = BitVec.ofNat 32 ((grid3.coords t 0).val * 400 + k.val) then (1 : EReal) else 0)
        * (show EReal from iblk3 V c 1 t (ix2 k d)) : EReal)
    = ∑ n : Fin 50000, (if V c main_v64 (ix2 b (0 : Fin 1)) = BitVec.ofNat 32 n.val then (1 : EReal) else 0)
      * (show EReal from V c main_v67 (ix2 n d)) := by
  exact OneHot.blocks (by rw [show cfg3.N = grid3.N from rfl, N_3]) _ _ (fun t => iblk3 V c 0 t (ix2 b (0 : Fin 1))) (fun t => (grid3.coords t 0).val)
    (fun t k => iblk3 V c 1 t (ix2 k d)) (fun t => gather3_ids V c t b) (fun t => (gather3_idx t).2.2.2)
    (fun t k h => gather3_tab V c t k d h)

/-- The last step of the grid. -/
abbrev gather3_last : Fin cfg3.N := ⟨124, by show 124 < grid3.N; rw [N_3]; decide⟩

/-- The region's result: row `b` is the one-hot row of the index word `b` contracted with the table. -/
theorem gather3_array (c : Dev nD) : (dat3 V c).arrAt 2 cfg3.N = fun j : S4096x128.Idx =>
    (∑ n : Fin 50000, (if V c main_v64 (ix2 (j 0) (0 : Fin 1)) = BitVec.ofNat 32 n.val then (1 : EReal) else 0)
      * (show EReal from V c main_v67 (ix2 n (j 1))) : EReal) := by
  refine (dat3 V c).arrAt_eq_of_after_last 2 gather3_last (by decide +kernel) _ fun j => ?_
  blk_simp
  rw [after3_2, Pipeline.eq_sum_fin_of_reset_step_apply_last (fun n h => outsAt3 V c n h) 125 (fun _ => 0) _
    (fun t h j => by rw [outsAt3_A V c t h]; frame_out; simp only [gather3_same]; rw [gather2_step, gather2_zero])
    (fun t h j => by rw [outsAt3_B V c t h]; frame_out; simp only [gather3_same]; rw [gather2_step])
    (le_of_eq N_3) gather3_last rfl j, zero_add]
  exact gather3_total V c (j 0) (j 1)

end Cert.KernelIdeal.Value

end
-- ==== Proof.Gather4.lean ====
/- The third gather region's result: the second item table's rows at the indices. -/
module

public import proofs.«01_k».proof.Proof.Gen.KernelIdeal.Frame.Region4
public import proofs.«01_k».proof.Proof.OneHot
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- The zero fill of the accumulator. -/
theorem gather4_zero (j) : k4_pay1 (F := Ideal) j = 0 := by pointwise [k4_pay1]

/-- One step of the gather: the accumulator plus the one-hot block contracted with the table's block. -/
theorem gather4_step (i : grid4.Coords) (ids : IVec S4096x1 32) (acc : FVec Ideal S4096x64 .f32)
    (tab : FVec Ideal S400x64 .f32) (j : S4096x64.Idx) :
    k4_pay2 (F := Ideal) i ids acc tab j = acc j + ∑ k : Fin 400,
      (if ids (ix2 (j 0) 0) = BitVec.ofNat 32 ((i 0).val * 400 + k.val) then (1 : EReal) else 0) * tab (ix2 k (j 1)) := by
  pointwise [k4_pay2]
  simp only [OneHot.hot, OneHot.col]

/-- Which block each window takes at a step: the table's window the step's own, the others always the first; and the step's
    number is its grid coordinate. -/
theorem gather4_idx : ∀ t : Fin cfg4.N, win4_0.index t = ![0, 0] ∧ win4_1.index t = ![t.val, 0] ∧ win4_2.index t = ![0, 0]
    ∧ (grid4.coords t 0).val = t.val :=
  (by decide +kernel : ∀ t : Fin grid4.N, _)

variable (V : (c : Dev nD) → (b : Ref sig .tc) → Buf (Elt Ideal) ((c : Thread nD τ).loc b))

/-- Every block of the index window is the whole index array. -/
theorem gather4_ids (c : Dev nD) (t : Fin cfg4.N) (b : Fin 4096) :
    iblk4 V c 0 t (ix2 b (0 : Fin 1)) = V c main_v65 (ix2 b (0 : Fin 1)) := by
  obtain ⟨e0, -, -, -⟩ := gather4_idx t
  blk_ext [iblk4, e0]

/-- Block `t` of the table window is the table's rows `400 t … 400 t + 399`. -/
theorem gather4_tab (c : Dev nD) (t : Fin cfg4.N) (k : Fin 400) (d : Fin 64) (h : t.val * 400 + k.val < 50000) :
    iblk4 V c 1 t (ix2 k d) = V c main_v68 (ix2 ⟨t.val * 400 + k.val, h⟩ d) := by
  obtain ⟨-, e1, -, -⟩ := gather4_idx t
  blk_ext [iblk4, e1]

/-- The 125 steps' contractions with 400 rows each are one contraction with the table's 50000 rows. -/
theorem gather4_total (c : Dev nD) (b : Fin 4096) (d : Fin 64) :
    (∑ t : Fin cfg4.N, ∑ k : Fin 400,
      (if iblk4 V c 0 t (ix2 b (0 : Fin 1)) = BitVec.ofNat 32 ((grid4.coords t 0).val * 400 + k.val) then (1 : EReal) else 0)
        * (show EReal from iblk4 V c 1 t (ix2 k d)) : EReal)
    = ∑ n : Fin 50000, (if V c main_v65 (ix2 b (0 : Fin 1)) = BitVec.ofNat 32 n.val then (1 : EReal) else 0)
      * (show EReal from V c main_v68 (ix2 n d)) := by
  exact OneHot.blocks (by rw [show cfg4.N = grid4.N from rfl, N_4]) _ _ (fun t => iblk4 V c 0 t (ix2 b (0 : Fin 1))) (fun t => (grid4.coords t 0).val)
    (fun t k => iblk4 V c 1 t (ix2 k d)) (fun t => gather4_ids V c t b) (fun t => (gather4_idx t).2.2.2)
    (fun t k h => gather4_tab V c t k d h)

/-- The last step of the grid. -/
abbrev gather4_last : Fin cfg4.N := ⟨124, by show 124 < grid4.N; rw [N_4]; decide⟩

/-- The region's result: row `b` is the one-hot row of the index word `b` contracted with the table. -/
theorem gather4_array (c : Dev nD) : (dat4 V c).arrAt 2 cfg4.N = fun j : S4096x64.Idx =>
    (∑ n : Fin 50000, (if V c main_v65 (ix2 (j 0) (0 : Fin 1)) = BitVec.ofNat 32 n.val then (1 : EReal) else 0)
      * (show EReal from V c main_v68 (ix2 n (j 1))) : EReal) := by
  refine (dat4 V c).arrAt_eq_of_after_last 2 gather4_last (by decide +kernel) _ fun j => ?_
  blk_simp
  rw [after4_2, Pipeline.eq_sum_fin_of_reset_step_apply_last (fun n h => outsAt4 V c n h) 125 (fun _ => 0) _
    (fun t h j => by rw [outsAt4_A V c t h]; frame_out; rw [gather4_step, gather4_zero])
    (fun t h j => by rw [outsAt4_B V c t h]; frame_out; rw [gather4_step])
    (le_of_eq N_4) gather4_last rfl j, zero_add]
  exact gather4_total V c (j 0) (j 1)

end Cert.KernelIdeal.Value

end
-- ==== Proof.LossBlock.lean ====
/- What one block of the loss kernel adds to each of its five running sums, in the terms of the specification. -/
module

public import proofs.«01_k».proof.Proof.Gen.KernelIdeal.Skeleton
public import proofs.«01_k».proof.Proof.TailBlock

@[expose] public section

set_option maxRecDepth 16384

noncomputable section

namespace Cert.KernelIdeal.Value

open Idealize.ShloMosaic Idealize.ShloMosaic.TcCoe Idealize.SL.Sem
open Cert.KernelIdeal Cert.KernelIdeal.Gen

variable (a b c e : FVec Ideal S512x32 .f32) (w : FVec Ideal S4096x32 .f32) (s : FVec Ideal S1x1 .f32) (j : S1x1.Idx)

/-- The sums start at zero. -/
theorem loss_zero : k5_pay2 (F := Ideal) j = 0 := by
  rw [eq_o11 j]
  pointwise [k5_pay2]

/-- The ranking sum's step. -/
theorem loss_rank : k5_pay3 (F := Ideal) a b a c s j = s j + ∑ r : Fin 512,
    Spec.rank (fun k => a (ix2 r k)) (fun k => b (ix2 r k)) (fun k => c (ix2 r k)) := by
  rw [eq_o11 j]
  pointwise [k5_pay3]
  simp only [ne_eq, not_true_eq_false, if_false]
  rfl

/-- The embedding sum's step. -/
theorem loss_emb : k5_pay4 (F := Ideal) s a b c j = s j + (∑ r : Fin 512, Spec.squares (fun k => a (ix2 r k))
    + ∑ r : Fin 512, Spec.squares (fun k => b (ix2 r k)) + ∑ r : Fin 512, Spec.squares (fun k => c (ix2 r k))) := by
  rw [eq_o11 j]
  pointwise [k5_pay4]
  rfl

/-- The users' contrastive sum's step: the generated block `a`, its own intent rows `b`, all intent rows `w`. -/
theorem loss_cl1 : k5_pay8 (F := Ideal) (k5_pay6 s) (k5_pay7 (k5_pay5 a) w b) j = s j + ∑ r : Fin 512,
    Spec.contrast (fun k => a (ix2 r k)) (fun k => b (ix2 r k)) (fun n k => w (ix2 n k)) := by
  rw [eq_o11 j]
  pointwise [k5_pay5, k5_pay6, k5_pay7, k5_pay8]
  rfl

/-- The items' contrastive sum's step. -/
theorem loss_cl2 : k5_pay13 (F := Ideal) (k5_pay9 a) (k5_pay10 w) (k5_pay11 a b) k5_pay12 s j = s j + ∑ r : Fin 512,
    Spec.contrast (fun k => a (ix2 r k)) (fun k => b (ix2 r k)) (fun n k => w (ix2 n k)) := by
  rw [eq_o11 j]
  pointwise [k5_pay9, k5_pay10, k5_pay11, k5_pay12, k5_pay13]
  rfl

/-- The intent regularizer's step: both matrices' squares where the flag is set, nothing elsewhere. -/
theorem loss_int (I J : FVec Ideal S32x64 .f32) (i : BitVec 32) :
    k5_pay1 (F := Ideal) i (k5_pay14 I J) (k5_pay15 s) j = s j + Scalar.select (Scalar.cmpi .eq i 0#32)
      (Spec.squaresI (fun x k => I (ix2 x k)) + Spec.squaresI (fun x k => J (ix2 x k))) 0 := by
  rw [eq_o11 j]
  pointwise [k5_pay1, k5_pay14, k5_pay15]
  rfl

end Cert.KernelIdeal.Value

end
-- ==== Proof.Loss5.lean ====
/- The loss region's results: its five sums over the batch, in the terms of the specification. -/
module

public import proofs.«01_k».proof.Proof.Gen.KernelIdeal.Frame.Region5
public import proofs.«01_k».proof.Proof.LossBlock
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- Which block each input window takes at a step: the row windows the step's own, the others always the first. -/
theorem loss5_idx : ∀ t : Fin cfg5.N, (win5_0.index t = ![t.val, 0] ∧ win5_1.index t = ![t.val, 0] ∧ win5_2.index t = ![t.val, 0]
    ∧ win5_3.index t = ![t.val, 0] ∧ win5_4.index t = ![t.val, 0]) ∧ (win5_5.index t = ![0, 0] ∧ win5_6.index t = ![0, 0])
    ∧ (win5_7.index t = ![t.val, 0] ∧ win5_8.index t = ![t.val, 0] ∧ win5_9.index t = ![t.val, 0])
    ∧ (win5_10.index t = ![0, 0] ∧ win5_11.index t = ![0, 0]) ∧ (grid5.coords t 0).val = t.val ∧ k5_off1 (grid5.coords t) = ![t.val * 512, 0] :=
  (by decide +kernel : ∀ t : Fin grid5.N, _)

variable (V : (c : Dev nD) → (b : Ref sig .tc) → Buf (Elt Ideal) ((c : Thread nD τ).loc b)) (c : Dev nD)

/-- A row of a batch array. -/
def brow (X : FVec Ideal S4096x32 .f32) (n : Fin 4096) : Spec.Row := fun k => X (ix2 n k)

/-- A row of a block of 512 samples. -/
abbrev prow (X : FVec Ideal S512x32 .f32) (r : Fin 512) : Spec.Row := fun k => X (ix2 r k)

/-- An intent matrix by its coordinates. -/
def imat (X : FVec Ideal S32x64 .f32) (x : Fin 32) (k : Fin 64) : EReal := X (ix2 x k)

section Blocks
variable (t : Fin cfg5.N) (r : Fin 512) (h : t.val * 512 + r.val < 4096)

/-- A row window's block holds the batch's samples `512 t … 512 t + 511`: the users' embeddings, -/
theorem loss5_w0 : prow (iblk5 V c 0 t) r = brow (V c main_v72) ⟨t.val * 512 + r.val, h⟩ := by
  obtain ⟨⟨e, -⟩, -⟩ := loss5_idx t; funext k; simp only [prow, brow]; blk_ext [iblk5, e]
/-- the positive items', -/
theorem loss5_w1 : prow (iblk5 V c 1 t) r = brow (V c main_v76) ⟨t.val * 512 + r.val, h⟩ := by
  obtain ⟨⟨-, e, -⟩, -⟩ := loss5_idx t; funext k; simp only [prow, brow]; blk_ext [iblk5, e]
/-- the negative items', -/
theorem loss5_w2 : prow (iblk5 V c 2 t) r = brow (V c main_v80) ⟨t.val * 512 + r.val, h⟩ := by
  obtain ⟨⟨-, -, e, -⟩, -⟩ := loss5_idx t; funext k; simp only [prow, brow]; blk_ext [iblk5, e]
/-- the users' generated embeddings, -/
theorem loss5_w3 : prow (iblk5 V c 3 t) r = brow (V c main_v73) ⟨t.val * 512 + r.val, h⟩ := by
  obtain ⟨⟨-, -, -, e, -⟩, -⟩ := loss5_idx t; funext k; simp only [prow, brow]; blk_ext [iblk5, e]
/-- the items' generated embeddings, -/
theorem loss5_w4 : prow (iblk5 V c 4 t) r = brow (V c main_v77) ⟨t.val * 512 + r.val, h⟩ := by
  obtain ⟨⟨-, -, -, -, e⟩, -⟩ := loss5_idx t; funext k; simp only [prow, brow]; blk_ext [iblk5, e]
/-- the users' own table rows, -/
theorem loss5_w7 : prow (iblk5 V c 7 t) r = brow (V c main_v75) ⟨t.val * 512 + r.val, h⟩ := by
  obtain ⟨-, -, ⟨e, -⟩, -⟩ := loss5_idx t; funext k; simp only [prow, brow]; blk_ext [iblk5, e]
/-- the positive items' own table rows, -/
theorem loss5_w8 : prow (iblk5 V c 8 t) r = brow (V c main_v79) ⟨t.val * 512 + r.val, h⟩ := by
  obtain ⟨-, -, ⟨-, e, -⟩, -⟩ := loss5_idx t; funext k; simp only [prow, brow]; blk_ext [iblk5, e]
/-- and the negative items'. -/
theorem loss5_w9 : prow (iblk5 V c 9 t) r = brow (V c main_v81) ⟨t.val * 512 + r.val, h⟩ := by
  obtain ⟨-, -, ⟨-, -, e⟩, -⟩ := loss5_idx t; funext k; simp only [prow, brow]; blk_ext [iblk5, e]

/-- The intent windows hold the batch's intent rows whole: the users', -/
theorem loss5_w5 : (iblk5 V c 5 t : FVec Ideal S4096x32 .f32) = V c main_v74 := by
  obtain ⟨-, ⟨e, -⟩, -⟩ := loss5_idx t; funext j; blk_ext [iblk5, e]
/-- and the items'; -/
theorem loss5_w6 : (iblk5 V c 6 t : FVec Ideal S4096x32 .f32) = V c main_v78 := by
  obtain ⟨-, ⟨-, e⟩, -⟩ := loss5_idx t; funext j; blk_ext [iblk5, e]
/-- the last two windows hold the intent matrices: the users', -/
theorem loss5_w10 : (iblk5 V c 10 t : FVec Ideal S32x64 .f32) = V c main_arg7 := by
  obtain ⟨-, -, -, ⟨e, -⟩, -⟩ := loss5_idx t; funext j; blk_ext [iblk5, e]
/-- and the items'. -/
theorem loss5_w11 : (iblk5 V c 11 t : FVec Ideal S32x64 .f32) = V c main_arg8 := by
  obtain ⟨-, -, -, ⟨-, e⟩, -⟩ := loss5_idx t; funext j; blk_ext [iblk5, e]

/-- The step's own 512 rows, read out of a whole batch array. -/
theorem loss5_own (X : FVec Ideal S4096x32 .f32)
    (hb : ∀ a, (k5_off1 (grid5.coords t)) a + (![512, 32] : Fin 2 → ℕ) a ≤ S4096x32.size a) :
    prow (fun x => X ((Rect.unit (s := S4096x32) (k5_off1 (grid5.coords t)) ![512, 32] hb).idx x)) r
      = brow X ⟨t.val * 512 + r.val, h⟩ := by
  obtain ⟨-, -, -, -, -, e⟩ := loss5_idx t
  funext k
  refine congrArg X (funext fun a => Fin.ext ?_)
  show (k5_off1 (grid5.coords t)) a + 1 * (ix2 r k a).val = (ix2 (⟨t.val * 512 + r.val, h⟩ : Fin 4096) k a).val
  rw [e, one_mul]
  fin_cases a
  · rfl
  · exact Nat.zero_add _
end Blocks

/-- The last step of the grid. -/
abbrev loss5_last : Fin cfg5.N := ⟨7, by show 7 < grid5.N; rw [N_5]; decide⟩

/-- The steps' ranking sums make up the batch's. -/
theorem loss5_rank_total : (∑ t : Fin cfg5.N, ∑ r : Fin 512,
      Spec.rank (prow (iblk5 V c 0 t) r) (prow (iblk5 V c 1 t) r) (prow (iblk5 V c 2 t) r))
    = ∑ n : Fin 4096, Spec.rank (brow (V c main_v72) n) (brow (V c main_v76) n) (brow (V c main_v80) n) :=
  Fin.sum_mul_add_congr fun s k hl => by rw [loss5_w0 V c s k hl, loss5_w1 V c s k hl, loss5_w2 V c s k hl]

/-- The steps' sums of squares make up the batch's. -/
theorem loss5_emb_total : (∑ t : Fin cfg5.N, (∑ r : Fin 512, Spec.squares (prow (iblk5 V c 7 t) r)
      + ∑ r : Fin 512, Spec.squares (prow (iblk5 V c 8 t) r) + ∑ r : Fin 512, Spec.squares (prow (iblk5 V c 9 t) r)))
    = (∑ n : Fin 4096, Spec.squares (brow (V c main_v75) n)) + (∑ n : Fin 4096, Spec.squares (brow (V c main_v79) n))
      + ∑ n : Fin 4096, Spec.squares (brow (V c main_v81) n) := by
  rw [Finset.sum_add_distrib, Finset.sum_add_distrib]
  refine congrArg₂ _ (congrArg₂ _ ?_ ?_) ?_
  · exact Fin.sum_mul_add_congr fun s k hl => by rw [loss5_w7 V c s k hl]
  · exact Fin.sum_mul_add_congr fun s k hl => by rw [loss5_w8 V c s k hl]
  · exact Fin.sum_mul_add_congr fun s k hl => by rw [loss5_w9 V c s k hl]

/-- The steps' users' contrastive sums make up the batch's. -/
theorem loss5_cl1_total (hb : ∀ t : Fin cfg5.N, ∀ a, (k5_off1 (grid5.coords t)) a + (![512, 32] : Fin 2 → ℕ) a ≤ S4096x32.size a) :
    (∑ t : Fin cfg5.N, ∑ r : Fin 512, Spec.contrast (prow (iblk5 V c 3 t) r)
      (prow (fun x => (iblk5 V c 5 t : FVec Ideal S4096x32 .f32) ((Rect.unit (s := S4096x32) (k5_off1 (grid5.coords t)) ![512, 32] (hb t)).idx x)) r)
      (brow (iblk5 V c 5 t)))
    = ∑ n : Fin 4096, Spec.contrast (brow (V c main_v73) n) (brow (V c main_v74) n) (brow (V c main_v74)) :=
  Fin.sum_mul_add_congr fun s k hl => by rw [loss5_w3 V c s k hl, loss5_own s k hl (iblk5 V c 5 s) (hb s), loss5_w5]

/-- The steps' items' contrastive sums make up the batch's. -/
theorem loss5_cl2_total (hb : ∀ t : Fin cfg5.N, ∀ a, (k5_off1 (grid5.coords t)) a + (![512, 32] : Fin 2 → ℕ) a ≤ S4096x32.size a) :
    (∑ t : Fin cfg5.N, ∑ r : Fin 512, Spec.contrast (prow (iblk5 V c 4 t) r)
      (prow (fun x => (iblk5 V c 6 t : FVec Ideal S4096x32 .f32) ((Rect.unit (s := S4096x32) (k5_off1 (grid5.coords t)) ![512, 32] (hb t)).idx x)) r)
      (brow (iblk5 V c 6 t)))
    = ∑ n : Fin 4096, Spec.contrast (brow (V c main_v77) n) (brow (V c main_v78) n) (brow (V c main_v78)) :=
  Fin.sum_mul_add_congr fun s k hl => by rw [loss5_w4 V c s k hl, loss5_own s k hl (iblk5 V c 6 s) (hb s), loss5_w6]

/-- The ranking sum. -/
theorem loss5_rank : (dat5 V c).arrAt 12 cfg5.N = fun _ : S1x1.Idx => ∑ n : Fin 4096,
    Spec.rank (brow (V c main_v72) n) (brow (V c main_v76) n) (brow (V c main_v80) n) := by
  refine (dat5 V c).arrAt_eq_of_after_last 12 loss5_last (by decide +kernel) _ fun j => ?_
  blk_simp
  rw [after5_12, Pipeline.eq_sum_fin_of_reset_step_apply_last (fun n h => (outsAt5 V c n h).1) 8 (fun _ => 0) _
    (fun t h j => by rw [outsAt5_A V c t h]; frame_out; rw [loss_rank, loss_zero])
    (fun t h j => by rw [outsAt5_B V c t h]; frame_out; rw [loss_rank])
    (le_of_eq N_5) loss5_last rfl j, zero_add]
  exact loss5_rank_total V c

/-- The embedding regularizer's sum. -/
theorem loss5_emb : (dat5 V c).arrAt 13 cfg5.N = fun _ : S1x1.Idx => (∑ n : Fin 4096, Spec.squares (brow (V c main_v75) n))
    + (∑ n : Fin 4096, Spec.squares (brow (V c main_v79) n)) + ∑ n : Fin 4096, Spec.squares (brow (V c main_v81) n) := by
  refine (dat5 V c).arrAt_eq_of_after_last 13 loss5_last (by decide +kernel) _ fun j => ?_
  blk_simp
  rw [after5_13, Pipeline.eq_sum_fin_of_reset_step_apply_last (fun n h => (outsAt5 V c n h).2.1) 8 (fun _ => 0) _
    (fun t h j => by rw [outsAt5_A V c t h]; frame_out; rw [loss_emb, loss_zero])
    (fun t h j => by rw [outsAt5_B V c t h]; frame_out; rw [loss_emb])
    (le_of_eq N_5) loss5_last rfl j, zero_add]
  exact loss5_emb_total V c

/-- The users' contrastive sum. -/
theorem loss5_cl1 : (dat5 V c).arrAt 14 cfg5.N = fun _ : S1x1.Idx => ∑ n : Fin 4096,
    Spec.contrast (brow (V c main_v73) n) (brow (V c main_v74) n) (brow (V c main_v74)) := by
  refine (dat5 V c).arrAt_eq_of_after_last 14 loss5_last (by decide +kernel) _ fun j => ?_
  blk_simp
  rw [after5_14, Pipeline.eq_sum_fin_of_reset_step_apply_last (fun n h => (outsAt5 V c n h).2.2.1) 8 (fun _ => 0) _
    (fun t h j => by rw [outsAt5_A V c t h]; frame_out; rw [loss_cl1, loss_zero])
    (fun t h j => by rw [outsAt5_B V c t h]; frame_out; rw [loss_cl1])
    (le_of_eq N_5) loss5_last rfl j, zero_add]
  exact loss5_cl1_total V c _

/-- The items' contrastive sum. -/
theorem loss5_cl2 : (dat5 V c).arrAt 15 cfg5.N = fun _ : S1x1.Idx => ∑ n : Fin 4096,
    Spec.contrast (brow (V c main_v77) n) (brow (V c main_v78) n) (brow (V c main_v78)) := by
  refine (dat5 V c).arrAt_eq_of_after_last 15 loss5_last (by decide +kernel) _ fun j => ?_
  blk_simp
  rw [after5_15, Pipeline.eq_sum_fin_of_reset_step_apply_last (fun n h => (outsAt5 V c n h).2.2.2.1) 8 (fun _ => 0) _
    (fun t h j => by rw [outsAt5_A V c t h]; frame_out; rw [loss_cl2, loss_zero])
    (fun t h j => by rw [outsAt5_B V c t h]; frame_out; rw [loss_cl2])
    (le_of_eq N_5) loss5_last rfl j, zero_add]
  exact loss5_cl2_total V c _

/-- Of eight steps' flagged terms only the first counts. -/
theorem loss5_first (x : EReal) : (∑ t : Fin cfg5.N, Scalar.select (Scalar.cmpi .eq (BitVec.ofNat 32 (grid5.coords t 0).val) 0#32) x 0) = x := by
  have e : ∀ t : Fin cfg5.N, Scalar.cmpi .eq (BitVec.ofNat 32 (grid5.coords t 0).val) 0#32 = if t.val = 0 then 1#1 else 0#1 :=
    (by decide +kernel : ∀ t : Fin grid5.N, _)
  rw [Finset.sum_eq_single (⟨0, by show 0 < grid5.N; rw [N_5]; decide⟩ : Fin cfg5.N)]
  · rw [e]; rfl
  · intro t _ h
    rw [e, if_neg fun h0 => h (Fin.ext h0)]; rfl
  · intro h; exact absurd (Finset.mem_univ _) h

/-- The intent regularizer's sum. -/
theorem loss5_int : (dat5 V c).arrAt 16 cfg5.N = fun _ : S1x1.Idx =>
    Spec.squaresI (imat (V c main_arg7)) + Spec.squaresI (imat (V c main_arg8)) := by
  refine (dat5 V c).arrAt_eq_of_after_last 16 loss5_last (by decide +kernel) _ fun j => ?_
  blk_simp
  rw [after5_16, Pipeline.eq_sum_fin_of_reset_step_apply_last (fun n h => (outsAt5 V c n h).2.2.2.2) 8 (fun _ => 0) _
    (fun t h j => by rw [outsAt5_A V c t h]; frame_out; rw [loss_int, loss_zero, loss5_w10, loss5_w11])
    (fun t h j => by rw [outsAt5_B V c t h]; frame_out; rw [loss_int, loss5_w10, loss5_w11])
    (le_of_eq N_5) loss5_last rfl j, zero_add]
  exact loss5_first _

end Cert.KernelIdeal.Value

end
-- ==== Proof.Rows.lean ====
/- The sampled rows: what the three gathers leave, and what the loss kernel finds. -/
module

public import proofs.«01_k».proof.Proof.Tables
public import proofs.«01_k».proof.Proof.OneHot
public import proofs.«01_k».proof.Proof.Gather2
public import proofs.«01_k».proof.Proof.Gather3
public import proofs.«01_k».proof.Proof.Gather4
public import proofs.«01_k».proof.Proof.Loss5

@[expose] public section

set_option maxRecDepth 16384

noncomputable section

namespace Cert.KernelIdeal.Value

open Idealize.ShloMosaic Idealize.ShloMosaic.TcCoe Idealize.SL.Sem
open Cert.KernelIdeal Cert.KernelIdeal.Gen

/-- A vector of numbers set up as a column. -/
theorem column (a : IVec S4096 32) (s : Fin 4096) : shapeCast S4096x1 a shapeCasts_S4096_S4096x1 (ix2 s (0 : Fin 1)) = a (ix1 s) := by
  pointwise

section
variable (X : FVec Ideal S4096x128 .f32) (Y : FVec Ideal S4096x64 .f32) (s : Fin 4096) (d : Fin 32)

/-- Columns 0–31, -/
theorem cols_0 : extractStridedSlice S4096x32 ![0, 0] X slices_S4096x128_S4096x32_0_0 (ix2 s d)
    = X (ix2 s (⟨0 + d.val, by omega⟩ : Fin 128)) := by pointwise
/-- columns 32–63, -/
theorem cols_1 : extractStridedSlice S4096x32 ![0, 32] X slices_S4096x128_S4096x32_0_32 (ix2 s d)
    = X (ix2 s (⟨32 + d.val, by omega⟩ : Fin 128)) := by pointwise
/-- columns 64–95, -/
theorem cols_2 : extractStridedSlice S4096x32 ![0, 64] X slices_S4096x128_S4096x32_0_64 (ix2 s d)
    = X (ix2 s (⟨64 + d.val, by omega⟩ : Fin 128)) := by pointwise
/-- columns 96–127 of 128, -/
theorem cols_3 : extractStridedSlice S4096x32 ![0, 96] X slices_S4096x128_S4096x32_0_96 (ix2 s d)
    = X (ix2 s (⟨96 + d.val, by omega⟩ : Fin 128)) := by pointwise
/-- columns 0–31, -/
theorem pair_0 : extractStridedSlice S4096x32 ![0, 0] Y slices_S4096x64_S4096x32_0_0 (ix2 s d)
    = Y (ix2 s (⟨0 + d.val, by omega⟩ : Fin 64)) := by pointwise
/-- columns 32–63 of 64. -/
theorem pair_1 : extractStridedSlice S4096x32 ![0, 32] Y slices_S4096x64_S4096x32_0_32 (ix2 s d)
    = Y (ix2 s (⟨32 + d.val, by omega⟩ : Fin 64)) := by pointwise
end

section
variable (m : (ℓ : Loc nD τ sig) → Buf (Elt Ideal) ℓ) (ρ : Dev nD → PrngReg) (c : Dev nD)
variable (hU : InRange (m ((c : Thread nD τ).loc main_arg0))) (hP : InRange (m ((c : Thread nD τ).loc main_arg1)))
    (hN : InRange (m ((c : Thread nD τ).loc main_arg2)))

/-- The first gather leaves the sampled users' rows of their table, -/
theorem W10_users (s : Fin 4096) (k : Fin 128) : (W10 m ρ c (Proc.devRef .tc main_v69) : FVec Ideal S4096x128 .f32) (ix2 s k)
    = (W7 m ρ c (Proc.devRef .tc main_v66) : FVec Ideal S50000x128 .f32) (ix2 ((model m c hU hP hN).user s) k) := by
  rw [W10_of m ρ c main_v69 (by decide), W9_of m ρ c main_v69 (by decide)]
  refine (congrFun ((W8_arr m ρ c 2).trans (gather2_array (V7 m ρ) c)) (ix2 s k)).trans ?_
  have e : (V7 m ρ c main_v63 : IVec S4096x1 32) (ix2 s (0 : Fin 1))
      = (m ((c : Thread nD τ).loc main_arg0) : IVec S4096 32) (ix1 s) := by
    rw [show V7 m ρ c main_v63 = _ from W7_user m ρ c, column]
  show (∑ n : Fin 50000, (if (V7 m ρ c main_v63 : IVec S4096x1 32) (ix2 s (0 : Fin 1)) = BitVec.ofNat 32 n.val then (1 : EReal) else 0)
    * (show EReal from V7 m ρ c main_v66 (ix2 n k)) : EReal) = _
  rw [e]
  exact OneHot.pick (by decide) _ (hU s) fun n => (show EReal from V7 m ρ c main_v66 (ix2 n k))

/-- the second the sampled items', -/
theorem W10_items (s : Fin 4096) (k : Fin 128) : (W10 m ρ c (Proc.devRef .tc main_v70) : FVec Ideal S4096x128 .f32) (ix2 s k)
    = (W7 m ρ c (Proc.devRef .tc main_v67) : FVec Ideal S50000x128 .f32) (ix2 ((model m c hU hP hN).pos s) k) := by
  rw [W10_of m ρ c main_v70 (by decide)]
  refine (congrFun ((W9_arr m ρ c 2).trans (gather3_array (V8 m ρ) c)) (ix2 s k)).trans ?_
  have e : (V8 m ρ c main_v64 : IVec S4096x1 32) (ix2 s (0 : Fin 1))
      = (m ((c : Thread nD τ).loc main_arg1) : IVec S4096 32) (ix1 s) := by
    rw [show V8 m ρ c main_v64 = _ from (W8_of m ρ c main_v64 (by decide)).trans (W7_pos m ρ c), column]
  show (∑ n : Fin 50000, (if (V8 m ρ c main_v64 : IVec S4096x1 32) (ix2 s (0 : Fin 1)) = BitVec.ofNat 32 n.val then (1 : EReal) else 0)
    * (show EReal from V8 m ρ c main_v67 (ix2 n k)) : EReal) = _
  rw [e]
  refine (OneHot.pick (by decide) _ (hP s) fun n => (show EReal from V8 m ρ c main_v67 (ix2 n k))).trans ?_
  exact congrFun (W8_of m ρ c main_v67 (by decide)) _

/-- and the third the other sampled items'. -/
theorem W10_others (s : Fin 4096) (k : Fin 64) : (W10 m ρ c (Proc.devRef .tc main_v71) : FVec Ideal S4096x64 .f32) (ix2 s k)
    = (W7 m ρ c (Proc.devRef .tc main_v68) : FVec Ideal S50000x64 .f32) (ix2 ((model m c hU hP hN).neg s) k) := by
  refine (congrFun ((W10_arr m ρ c 2).trans (gather4_array (V9 m ρ) c)) (ix2 s k)).trans ?_
  have e : (V9 m ρ c main_v65 : IVec S4096x1 32) (ix2 s (0 : Fin 1))
      = (m ((c : Thread nD τ).loc main_arg2) : IVec S4096 32) (ix1 s) := by
    rw [show V9 m ρ c main_v65 = _ from (W9_of m ρ c main_v65 (by decide)).trans ((W8_of m ρ c main_v65 (by decide)).trans (W7_neg m ρ c)), column]
  show (∑ n : Fin 50000, (if (V9 m ρ c main_v65 : IVec S4096x1 32) (ix2 s (0 : Fin 1)) = BitVec.ofNat 32 n.val then (1 : EReal) else 0)
    * (show EReal from V9 m ρ c main_v68 (ix2 n k)) : EReal) = _
  rw [e]
  refine (OneHot.pick (by decide) _ (hN s) fun n => (show EReal from V9 m ρ c main_v68 (ix2 n k))).trans ?_
  exact congrFun ((W9_of m ρ c main_v68 (by decide)).trans (W8_of m ρ c main_v68 (by decide))) _

/-- The loss kernel finds the sampled users' means, -/
theorem row72 (s : Fin 4096) : brow (V11 m ρ c main_v72) s = (model m c hU hP hN).mean (Spec.lo ((model m c hU hP hN).user s)) := by
  have h : W11 m ρ c (Proc.devRef .tc main_v72) = extractStridedSlice S4096x32 ![0, 0]
      (W10 m ρ c (Proc.devRef .tc main_v69) : FVec Ideal S4096x128 .f32) slices_S4096x128_S4096x32_0_0 := by
    show StableHlo.after hostOps5 (W10 m ρ c) (Proc.devRef .tc main_v72) = _
    generalize W10 m ρ c = V
    after_results_simp
  funext d
  unfold brow
  rw [show V11 m ρ c main_v72 = _ from h, cols_0, W10_users m ρ c hU hP hN, W7_users, four_0, W6_means0 m ρ c hU hP hN]
/-- their generated embeddings, -/
theorem row73 (s : Fin 4096) : brow (V11 m ρ c main_v73) s = (model m c hU hP hN).gen (Spec.lo ((model m c hU hP hN).user s)) := by
  have h : W11 m ρ c (Proc.devRef .tc main_v73) = extractStridedSlice S4096x32 ![0, 32]
      (W10 m ρ c (Proc.devRef .tc main_v69) : FVec Ideal S4096x128 .f32) slices_S4096x128_S4096x32_0_32 := by
    show StableHlo.after hostOps5 (W10 m ρ c) (Proc.devRef .tc main_v73) = _
    generalize W10 m ρ c = V
    after_results_simp
  funext d
  unfold brow
  rw [show V11 m ρ c main_v73 = _ from h, cols_1, W10_users m ρ c hU hP hN, W7_users, four_1, W6_gens0 m ρ c hU hP hN]
/-- their intent embeddings -/
theorem row74 (s : Fin 4096) : brow (V11 m ρ c main_v74) s = (model m c hU hP hN).intU s := by
  have h : W11 m ρ c (Proc.devRef .tc main_v74) = extractStridedSlice S4096x32 ![0, 64]
      (W10 m ρ c (Proc.devRef .tc main_v69) : FVec Ideal S4096x128 .f32) slices_S4096x128_S4096x32_0_64 := by
    show StableHlo.after hostOps5 (W10 m ρ c) (Proc.devRef .tc main_v74) = _
    generalize W10 m ρ c = V
    after_results_simp
  funext d
  unfold brow
  rw [show V11 m ρ c main_v74 = _ from h, cols_2, W10_users m ρ c hU hP hN, W7_users, four_2, W6_ints0 m ρ c hU hP hN]
  rfl
/-- and their table rows; -/
theorem row75 (s : Fin 4096) : brow (V11 m ρ c main_v75) s = (model m c hU hP hN).tableU ((model m c hU hP hN).user s) := by
  have h : W11 m ρ c (Proc.devRef .tc main_v75) = extractStridedSlice S4096x32 ![0, 96]
      (W10 m ρ c (Proc.devRef .tc main_v69) : FVec Ideal S4096x128 .f32) slices_S4096x128_S4096x32_0_96 := by
    show StableHlo.after hostOps5 (W10 m ρ c) (Proc.devRef .tc main_v75) = _
    generalize W10 m ρ c = V
    after_results_simp
  funext d
  unfold brow
  rw [show V11 m ρ c main_v75 = _ from h, cols_3, W10_users m ρ c hU hP hN, W7_users, four_3, W6_args m ρ c main_arg5 (by decide)]
  rfl
/-- the sampled items' means, -/
theorem row76 (s : Fin 4096) : brow (V11 m ρ c main_v76) s = (model m c hU hP hN).mean (Spec.hi ((model m c hU hP hN).pos s)) := by
  have h : W11 m ρ c (Proc.devRef .tc main_v76) = extractStridedSlice S4096x32 ![0, 0]
      (W10 m ρ c (Proc.devRef .tc main_v70) : FVec Ideal S4096x128 .f32) slices_S4096x128_S4096x32_0_0 := by
    show StableHlo.after hostOps5 (W10 m ρ c) (Proc.devRef .tc main_v76) = _
    generalize W10 m ρ c = V
    after_results_simp
  funext d
  unfold brow
  rw [show V11 m ρ c main_v76 = _ from h, cols_0, W10_items m ρ c hU hP hN, W7_items, four_0, W6_means1 m ρ c hU hP hN]
/-- their generated embeddings, -/
theorem row77 (s : Fin 4096) : brow (V11 m ρ c main_v77) s = (model m c hU hP hN).gen (Spec.hi ((model m c hU hP hN).pos s)) := by
  have h : W11 m ρ c (Proc.devRef .tc main_v77) = extractStridedSlice S4096x32 ![0, 32]
      (W10 m ρ c (Proc.devRef .tc main_v70) : FVec Ideal S4096x128 .f32) slices_S4096x128_S4096x32_0_32 := by
    show StableHlo.after hostOps5 (W10 m ρ c) (Proc.devRef .tc main_v77) = _
    generalize W10 m ρ c = V
    after_results_simp
  funext d
  unfold brow
  rw [show V11 m ρ c main_v77 = _ from h, cols_1, W10_items m ρ c hU hP hN, W7_items, four_1, W6_gens1 m ρ c hU hP hN]
/-- their intent embeddings -/
theorem row78 (s : Fin 4096) : brow (V11 m ρ c main_v78) s = (model m c hU hP hN).intI s := by
  have h : W11 m ρ c (Proc.devRef .tc main_v78) = extractStridedSlice S4096x32 ![0, 64]
      (W10 m ρ c (Proc.devRef .tc main_v70) : FVec Ideal S4096x128 .f32) slices_S4096x128_S4096x32_0_64 := by
    show StableHlo.after hostOps5 (W10 m ρ c) (Proc.devRef .tc main_v78) = _
    generalize W10 m ρ c = V
    after_results_simp
  funext d
  unfold brow
  rw [show V11 m ρ c main_v78 = _ from h, cols_2, W10_items m ρ c hU hP hN, W7_items, four_2, W6_ints1 m ρ c hU hP hN]
  rfl
/-- and their table rows; -/
theorem row79 (s : Fin 4096) : brow (V11 m ρ c main_v79) s = (model m c hU hP hN).tableI ((model m c hU hP hN).pos s) := by
  have h : W11 m ρ c (Proc.devRef .tc main_v79) = extractStridedSlice S4096x32 ![0, 96]
      (W10 m ρ c (Proc.devRef .tc main_v70) : FVec Ideal S4096x128 .f32) slices_S4096x128_S4096x32_0_96 := by
    show StableHlo.after hostOps5 (W10 m ρ c) (Proc.devRef .tc main_v79) = _
    generalize W10 m ρ c = V
    after_results_simp
  funext d
  unfold brow
  rw [show V11 m ρ c main_v79 = _ from h, cols_3, W10_items m ρ c hU hP hN, W7_items, four_3, W6_args m ρ c main_arg6 (by decide)]
  rfl
/-- the other sampled items' means -/
theorem row80 (s : Fin 4096) : brow (V11 m ρ c main_v80) s = (model m c hU hP hN).mean (Spec.hi ((model m c hU hP hN).neg s)) := by
  have h : W11 m ρ c (Proc.devRef .tc main_v80) = extractStridedSlice S4096x32 ![0, 0]
      (W10 m ρ c (Proc.devRef .tc main_v71) : FVec Ideal S4096x64 .f32) slices_S4096x64_S4096x32_0_0 := by
    show StableHlo.after hostOps5 (W10 m ρ c) (Proc.devRef .tc main_v80) = _
    generalize W10 m ρ c = V
    after_results_simp
  funext d
  unfold brow
  rw [show V11 m ρ c main_v80 = _ from h, pair_0, W10_others m ρ c hU hP hN, W7_others, two_0, W6_means1 m ρ c hU hP hN]
/-- and their table rows. -/
theorem row81 (s : Fin 4096) : brow (V11 m ρ c main_v81) s = (model m c hU hP hN).tableI ((model m c hU hP hN).neg s) := by
  have h : W11 m ρ c (Proc.devRef .tc main_v81) = extractStridedSlice S4096x32 ![0, 32]
      (W10 m ρ c (Proc.devRef .tc main_v71) : FVec Ideal S4096x64 .f32) slices_S4096x64_S4096x32_0_32 := by
    show StableHlo.after hostOps5 (W10 m ρ c) (Proc.devRef .tc main_v81) = _
    generalize W10 m ρ c = V
    after_results_simp
  funext d
  unfold brow
  rw [show V11 m ρ c main_v81 = _ from h, pair_1, W10_others m ρ c hU hP hN, W7_others, two_1, W6_args m ρ c main_arg6 (by decide)]
  rfl
end

end Cert.KernelIdeal.Value

end
-- ==== Proof.Results.lean ====
/- The four losses the kernel program leaves. -/
module

public import proofs.«01_k».proof.Proof.Rows

@[expose] public section

set_option maxRecDepth 16384

noncomputable section

namespace Cert.KernelIdeal.Value

open Idealize.ShloMosaic Idealize.ShloMosaic.TcCoe Idealize.SL.Sem
open Cert.KernelIdeal Cert.KernelIdeal.Gen

section
variable (m : (ℓ : Loc nD τ sig) → Buf (Elt Ideal) ℓ) (ρ : Dev nD → PrngReg) (c : Dev nD)
variable (hU : InRange (m ((c : Thread nD τ).loc main_arg0))) (hP : InRange (m ((c : Thread nD τ).loc main_arg1)))
    (hN : InRange (m ((c : Thread nD τ).loc main_arg2)))

/-- The loss kernel leaves the ranking terms' sum, -/
theorem W12_rank : (W12 m ρ c (Proc.devRef .tc main_v82_0) : FVec Ideal S1x1 .f32) = fun _ => ∑ s : Fin 4096,
    Spec.rank ((model m c hU hP hN).mean (Spec.lo ((model m c hU hP hN).user s)))
      ((model m c hU hP hN).mean (Spec.hi ((model m c hU hP hN).pos s)))
      ((model m c hU hP hN).mean (Spec.hi ((model m c hU hP hN).neg s))) := by
  refine ((W12_arr m ρ c 12).trans (loss5_rank (V11 m ρ) c)).trans ?_
  simp only [row72 m ρ c hU hP hN, row76 m ρ c hU hP hN, row80 m ρ c hU hP hN]
  rfl
/-- the sampled table rows' squares, -/
theorem W12_emb : (W12 m ρ c (Proc.devRef .tc main_v82_1) : FVec Ideal S1x1 .f32) = fun _ =>
    (∑ s : Fin 4096, Spec.squares ((model m c hU hP hN).tableU ((model m c hU hP hN).user s)))
      + (∑ s : Fin 4096, Spec.squares ((model m c hU hP hN).tableI ((model m c hU hP hN).pos s)))
      + ∑ s : Fin 4096, Spec.squares ((model m c hU hP hN).tableI ((model m c hU hP hN).neg s)) := by
  refine ((W12_arr m ρ c 13).trans (loss5_emb (V11 m ρ) c)).trans ?_
  simp only [row75 m ρ c hU hP hN, row79 m ρ c hU hP hN, row81 m ρ c hU hP hN]
  rfl
/-- the users' contrastive terms' sum, -/
theorem W12_cl1 : (W12 m ρ c (Proc.devRef .tc main_v82_2) : FVec Ideal S1x1 .f32) = fun _ => ∑ s : Fin 4096,
    Spec.contrast ((model m c hU hP hN).gen (Spec.lo ((model m c hU hP hN).user s))) ((model m c hU hP hN).intU s)
      (model m c hU hP hN).intU := by
  refine ((W12_arr m ρ c 14).trans (loss5_cl1 (V11 m ρ) c)).trans ?_
  rw [show brow (V11 m ρ c main_v74) = (model m c hU hP hN).intU from funext fun s => row74 m ρ c hU hP hN s]
  simp only [row73 m ρ c hU hP hN]
  rfl
/-- the items', -/
theorem W12_cl2 : (W12 m ρ c (Proc.devRef .tc main_v82_3) : FVec Ideal S1x1 .f32) = fun _ => ∑ s : Fin 4096,
    Spec.contrast ((model m c hU hP hN).gen (Spec.hi ((model m c hU hP hN).pos s))) ((model m c hU hP hN).intI s)
      (model m c hU hP hN).intI := by
  refine ((W12_arr m ρ c 15).trans (loss5_cl2 (V11 m ρ) c)).trans ?_
  rw [show brow (V11 m ρ c main_v78) = (model m c hU hP hN).intI from funext fun s => row78 m ρ c hU hP hN s]
  simp only [row77 m ρ c hU hP hN]
  rfl
/-- and the intents' squares. -/
theorem W12_int : (W12 m ρ c (Proc.devRef .tc main_v82_4) : FVec Ideal S1x1 .f32) = fun _ =>
    Spec.squaresI (model m c hU hP hN).intentU + Spec.squaresI (model m c hU hP hN).intentI := by
  refine ((W12_arr m ρ c 16).trans (loss5_int (V11 m ρ) c)).trans ?_
  rw [show V11 m ρ c main_arg7 = _ from W11_args m ρ c main_arg7 (by decide),
    show V11 m ρ c main_arg8 = _ from W11_args m ρ c main_arg8 (by decide)]
  rfl
/-- The users' Kullback–Leibler sum is still there, -/
theorem W12_kls0 : (W12 m ρ c (Proc.devRef .tc main_v57_3) : FVec Ideal S1x1 .f32)
    = fun _ => ∑ n : Fin 50000, (model m c hU hP hN).kl (Spec.lo n) := by
  rw [W12_of m ρ c main_v57_3 (by decide), W11_of m ρ c main_v57_3 (by decide), W10_of m ρ c main_v57_3 (by decide),
    W9_of m ρ c main_v57_3 (by decide), W8_of m ρ c main_v57_3 (by decide), W7_of m ρ c main_v57_3 (by decide)]
  exact W6_kls0 m ρ c hU hP hN
/-- and so is the items'. -/
theorem W12_kls1 : (W12 m ρ c (Proc.devRef .tc main_v62_3) : FVec Ideal S1x1 .f32)
    = fun _ => ∑ n : Fin 50000, (model m c hU hP hN).kl (Spec.hi n) := by
  rw [W12_of m ρ c main_v62_3 (by decide), W11_of m ρ c main_v62_3 (by decide), W10_of m ρ c main_v62_3 (by decide),
    W9_of m ρ c main_v62_3 (by decide), W8_of m ρ c main_v62_3 (by decide), W7_of m ρ c main_v62_3 (by decide)]
  exact W6_kls1 m ρ c hU hP hN

/-- The first result is the generative loss, -/
theorem W13_gen : (W13 m ρ c (Proc.devRef .tc main_v90) : FVec Ideal S_ .f32) = fun _ => (model m c hU hP hN).genLoss := by
  have h0 := W12_rank m ρ c hU hP hN
  have h1 := W12_kls0 m ρ c hU hP hN
  have h2 := W12_kls1 m ρ c hU hP hN
  show StableHlo.after hostOps6 (W12 m ρ c) (Proc.devRef .tc main_v90) = _
  generalize W12 m ρ c = V at h0 h1 h2 ⊢
  after_results_simp
  rw [h0, h1, h2]
  funext j
  pointwise
  simp only [Finset.univ_unique, Finset.sum_singleton]
  rfl
/-- the second the contrastive loss, -/
theorem W13_cl : (W13 m ρ c (Proc.devRef .tc main_v96) : FVec Ideal S_ .f32) = fun _ => (model m c hU hP hN).clLoss := by
  have h0 := W12_cl1 m ρ c hU hP hN
  have h1 := W12_cl2 m ρ c hU hP hN
  show StableHlo.after hostOps6 (W12 m ρ c) (Proc.devRef .tc main_v96) = _
  generalize W12 m ρ c = V at h0 h1 ⊢
  after_results_simp
  rw [h0, h1]
  funext j
  pointwise
  simp only [Finset.univ_unique, Finset.sum_singleton]
  rfl
/-- the third the embedding regularizer, -/
theorem W13_emb : (W13 m ρ c (Proc.devRef .tc main_v98) : FVec Ideal S_ .f32) = fun _ => (model m c hU hP hN).embLoss := by
  have h0 := W12_emb m ρ c hU hP hN
  show StableHlo.after hostOps6 (W12 m ρ c) (Proc.devRef .tc main_v98) = _
  generalize W12 m ρ c = V at h0 ⊢
  after_results_simp
  rw [h0]
  funext j
  pointwise
  simp only [Finset.univ_unique, Finset.sum_singleton]
  rfl
/-- the fourth the intent regularizer. -/
theorem W13_int : (W13 m ρ c (Proc.devRef .tc main_v100) : FVec Ideal S_ .f32) = fun _ => (model m c hU hP hN).intLoss := by
  have h0 := W12_int m ρ c hU hP hN
  show StableHlo.after hostOps6 (W12 m ρ c) (Proc.devRef .tc main_v100) = _
  generalize W12 m ρ c = V at h0 ⊢
  after_results_simp
  rw [h0]
  funext j
  pointwise
  simp only [Finset.univ_unique, Finset.sum_singleton]
  rfl
end

end Cert.KernelIdeal.Value

end
-- ==== Proof.Run.lean ====
/- The kernel program's run: from any memory with zero counters it ends, with the four losses in its results. -/
module

public import proofs.«01_k».proof.Proof.Results
public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- The logic the launch is stated in. -/
abbrev Logic : Type _ := MT nD τ sig Unit (Elt Ideal) ℕ (UR sig nD τ) ℕ

set_option backward.isDefEq.respectTransparency.types false in
/-- Every weakly fair execution of the kernel program ends, and every unscoped buffer then holds what the fold over the
    program's stretches and kernels says. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Logic)
            ⊢ BI.own (emb₁ (initOf (Pipeline.cells cfgs cellOf_inj) (Pipeline.launchToks cfgs cellOf_inj))) from .rfl)
        iexact Hu
      iapply (show (BI.emp : sProp Logic) ⊢ bigSep Finset.univ (fun _ : Dev nD => (BI.emp : sProp Logic)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

/-- With the sampled nodes in range, the run ends with the four losses in the results and the arguments as they were. -/
theorem computes (hU : ∀ c : Dev nD, InRange (m ((c : Thread nD τ).loc main_arg0)))
    (hP : ∀ c : Dev nD, InRange (m ((c : Thread nD τ).loc main_arg1))) (hN : ∀ c : Dev nD, InRange (m ((c : Thread nD τ).loc main_arg2))) :
    θ_run defs (onTc (τ := τ) (main (F := Ideal))) ⟨m, fun _ => 0, ρ⟩ (fun r => ∀ c : Dev nD,
      r.2.mem ((c.tc : Thread nD τ).loc main_v90) = (fun _ => (model m c (hU c) (hP c) (hN c)).genLoss : FVec Ideal S_ .f32)
      ∧ r.2.mem ((c.tc : Thread nD τ).loc main_v96) = (fun _ => (model m c (hU c) (hP c) (hN c)).clLoss : FVec Ideal S_ .f32)
      ∧ r.2.mem ((c.tc : Thread nD τ).loc main_v98) = (fun _ => (model m c (hU c) (hP c) (hN c)).embLoss : FVec Ideal S_ .f32)
      ∧ r.2.mem ((c.tc : Thread nD τ).loc main_v100) = (fun _ => (model m c (hU c) (hP c) (hN c)).intLoss : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c =>
    ⟨(h c _ (mem_uc main_v90 (by decide))).trans (W13_gen m ρ c (hU c) (hP c) (hN c)),
     (h c _ (mem_uc main_v96 (by decide))).trans (W13_cl m ρ c (hU c) (hP c) (hN c)),
     (h c _ (mem_uc main_v98 (by decide))).trans (W13_emb m ρ c (hU c) (hP c) (hN c)),
     (h c _ (mem_uc main_v100 (by decide))).trans (W13_int m ρ c (hU c) (hP c) (hN c)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩) (ends m ρ)

end Cert.KernelIdeal.Value

end
-- ==== Proof.Reference.lean ====
/- The reference's intermediate arrays, read at an index in the model's terms. -/
module

public import proofs.«01_k».proof.Proof.Gen.ReferenceIdeal.Run
public import proofs.«01_k».proof.Proof.Model
public import Idealize.ShloMosaic.Lib.Routing.Ops

@[expose] public section

set_option maxRecDepth 16384

noncomputable section

namespace Cert.ReferenceIdeal.Losses

open Idealize.ShloMosaic Idealize.ShloMosaic.TcCoe Idealize.SL.Sem
open Cert.ReferenceIdeal Cert.ReferenceIdeal.Gen Cert.ReferenceIdeal.Value

/-- The sampled nodes' numbers all lie in their table. -/
def InRange (a : IVec S4096 32) : Prop := ∀ s : Fin 4096, (a (ix1 s)).toNat < 50000

/-- The row numbers a lookup uses: a negative one counted from the table's end, set up as a column. -/
def wrapped (a : IVec S4096 32) : IVec S4096x1 32 :=
  broadcastInDim S4096x1 ![0] bcast_S4096_S4096x1_0 (select (cmpi .slt a (broadcastInDim S4096 ![] bcast_S_S4096 (constantI S_ 32 0#32)))
    (addi a (broadcastInDim S4096 ![] bcast_S_S4096 (constantI S_ 32 50000#32))) a)

/-- A number in range is not negative and is used as it is. -/
theorem wrapped_at (a : IVec S4096 32) (h : InRange a) (s : Fin 4096) :
    wrapped a (ix2 s (0 : Fin 1)) = BitVec.ofNat 32 (a (ix1 s)).toNat := by
  have hs := h s
  have e : wrapped a (ix2 s (0 : Fin 1)) = Scalar.select (Scalar.cmpi .slt (a (ix1 s)) 0#32) (a (ix1 s) + 50000#32) (a (ix1 s)) := by
    unfold wrapped
    pointwise
    rfl
  have hn : Scalar.cmpi .slt (a (ix1 s)) 0#32 = 0#1 := by
    show BitVec.ofBool ((a (ix1 s)).slt 0#32) = 0#1
    have : (a (ix1 s)).slt 0#32 = false := by
      rw [BitVec.slt_eq_decide, decide_eq_false_iff_not]
      rw [BitVec.toInt_eq_toNat_of_lt (by omega)]
      simp
    rw [this]
    rfl
  rw [e, hn]
  simp [Scalar.select]

/-- A lookup in range reads the row of that number. -/
theorem lookup (X : FVec Ideal S50000x32 .f32) (a : IVec S4096 32) (h : InRange a) (s : Fin 4096) (d : Fin 32) :
    Host.gather gather_S50000x32_S4096x1_S4096x32_1_0_n_n_0_1_132 X (wrapped a) (ix2 s d) = X (ix2 (⟨_, h s⟩ : Fin 50000) d) :=
  Routing.gather_row _ rfl rfl rfl rfl rfl X (wrapped a) s d ⟨_, h s⟩ (wrapped_at a h s) (by norm_num)

section
variable (V : Valuation τ sig (Elt Ideal)) (hU : InRange (V (Proc.devRef .tc main_arg0)))
  (hP : InRange (V (Proc.devRef .tc main_arg1))) (hN : InRange (V (Proc.devRef .tc main_arg2)))

/-- The model the arguments describe. -/
def model : Spec.Model where
  mean n d := (res_main_v52 V : FVec Ideal S100000x32 .f32) (ix2 n d)
  noise n d := (V (Proc.devRef .tc main_arg11) : FVec Ideal S100000x32 .f32) (ix2 n d)
  weights d k := (V (Proc.devRef .tc main_arg9) : FVec Ideal S32x16 .f32) (ix2 d k)
  bias d := (V (Proc.devRef .tc main_arg10) : FVec Ideal S32 .f32) (ix1 d)
  intentU x k := (V (Proc.devRef .tc main_arg7) : FVec Ideal S32x64 .f32) (ix2 x k)
  intentI x k := (V (Proc.devRef .tc main_arg8) : FVec Ideal S32x64 .f32) (ix2 x k)
  tableU n d := (V (Proc.devRef .tc main_arg5) : FVec Ideal S50000x32 .f32) (ix2 n d)
  tableI n d := (V (Proc.devRef .tc main_arg6) : FVec Ideal S50000x32 .f32) (ix2 n d)
  user s := ⟨_, hU s⟩
  pos s := ⟨_, hP s⟩
  neg s := ⟨_, hN s⟩

/-- The users' half of the means, -/
theorem v53_at (n : Fin 50000) (d : Fin 32) : (res_main_v53 V : FVec Ideal S50000x32 .f32) (ix2 n d)
    = (model V hU hP hN).mean (Spec.lo n) d := by
  unfold res_main_v53
  pointwise
  rfl
/-- and the items'. -/
theorem v54_at (n : Fin 50000) (d : Fin 32) : (res_main_v54 V : FVec Ideal S50000x32 .f32) (ix2 n d)
    = (model V hU hP hN).mean (Spec.hi n) d := by
  unfold res_main_v54
  pointwise
  rfl
/-- The standard deviations, -/
theorem v63_at (n : Fin 100000) (d : Fin 32) : (res_main_v63 V : FVec Ideal S100000x32 .f32) (ix2 n d)
    = Spec.std (model V hU hP hN).weights (model V hU hP hN).bias ((model V hU hP hN).mean n) d := by
  pointwise [res_main_v63, res_main_call1_v3, res_main_call1_cst, res_main_v55]
  simp only [ne_eq, not_true_eq_false, if_false, sub_zero]
  unfold Spec.std Spec.softplus
  simp only [zero_sub]
  rfl
/-- the generated embeddings, -/
theorem v65_at (n : Fin 100000) (d : Fin 32) : (res_main_v65 V : FVec Ideal S100000x32 .f32) (ix2 n d)
    = (model V hU hP hN).gen n d := by
  pointwise [res_main_v65]
  rw [v63_at V hU hP hN]
  rfl
/-- the users' logits, -/
theorem v66_at (n : Fin 50000) (k : Fin 64) : (res_main_v66 V : FVec Ideal S50000x64 .f32) (ix2 n k)
    = Spec.logit (model V hU hP hN).intentU ((model V hU hP hN).mean (Spec.lo n)) k := by
  pointwise [res_main_v66]
  simp only [v53_at V hU hP hN]
  rfl
/-- the items' logits, -/
theorem v80_at (n : Fin 50000) (k : Fin 64) : (res_main_v80 V : FVec Ideal S50000x64 .f32) (ix2 n k)
    = Spec.logit (model V hU hP hN).intentI ((model V hU hP hN).mean (Spec.hi n)) k := by
  pointwise [res_main_v80]
  simp only [v54_at V hU hP hN]
  rfl
end

end Cert.ReferenceIdeal.Losses

end
-- ==== Proof.Softmax.lean ====
/- The reference's softmax, read at an index. -/
module

public import proofs.«01_k».proof.Proof.Reference

@[expose] public section

set_option maxRecDepth 16384

noncomputable section

namespace Cert.ReferenceIdeal.Losses

open Idealize.ShloMosaic Idealize.ShloMosaic.TcCoe Idealize.SL.Sem
open Cert.ReferenceIdeal Cert.ReferenceIdeal.Gen Cert.ReferenceIdeal.Value

/-- What is left of an entry after the row's maximum is taken off, whatever the maxima are. -/
theorem shifted_at (X : FVec Ideal S50000x64 .f32) (M : FVec Ideal S50000 .f32)
    (n : Fin 50000) (k : Fin 64) :
    (Host.exp (subf X
      (broadcastInDim S50000x64 ![0, 1] bcast_S50000x1_S50000x64_0_1
        (broadcastInDim S50000x1 ![0] bcast_S50000_S50000x1_0
          (maximumf (broadcastInDim S50000 ![] bcast_S_S50000
            (constant (F := Ideal) S_ .f32 0xFF800000#32)) M)))) : FVec Ideal S50000x64 .f32)
      (ix2 n k)
    = Ideal.exp (X (ix2 n k) - max (Ideal.ofBits .f32 0xFF800000#32) (M (ix1 n))) := by
  pointwise

/-- The softmax numerators of an array of logits, as the reference writes them. -/
def numerators (X : FVec Ideal S50000x64 .f32) : FVec Ideal S50000x64 .f32 :=
  Host.exp (subf X (broadcastInDim S50000x64 ![0, 1] bcast_S50000x1_S50000x64_0_1 (broadcastInDim S50000x1 ![0] bcast_S50000_S50000x1_0
    (maximumf (broadcastInDim S50000 ![] bcast_S_S50000 (constant S_ .f32 0xFF800000#32))
      (Host.reduce FloatOps.maximumf X (constant S_ .f32 0xFF800000#32) reducesTo_S50000x64_S50000_d1 h_S_)))))

/-- The reference's maximum of each row. -/
theorem rowmax (X : FVec Ideal S50000x64 .f32) (n : Fin 50000) :
    (Host.reduce FloatOps.maximumf X (constant S_ .f32 0xFF800000#32) reducesTo_S50000x64_S50000_d1 h_S_ : FVec Ideal S50000 .f32) (ix1 n)
    = Finset.fold max (Ideal.ofBits .f32 0xFF800000#32) (fun j : Fin 64 => X (ix2 n j)) Finset.univ := by
  rw [Host.reduce_eq_fold, Shape.ReducesTo.fold_fiber_r2_a1]
  rfl

/-- At a row and an intent: the exponential of the logit less the row's largest. -/
theorem numerators_at (X : FVec Ideal S50000x64 .f32) (n : Fin 50000) (k : Fin 64) :
    numerators X (ix2 n k) = Ideal.exp (X (ix2 n k) - max (Ideal.ofBits .f32 0xFF800000#32)
      (Finset.fold max (Ideal.ofBits .f32 0xFF800000#32) (fun j : Fin 64 => X (ix2 n j)) Finset.univ)) := by
  rw [← rowmax X n]
  exact shifted_at X _ n k

section
variable (V : Valuation τ sig (Elt Ideal)) (hU : InRange (V (Proc.devRef .tc main_arg0)))
  (hP : InRange (V (Proc.devRef .tc main_arg1))) (hN : InRange (V (Proc.devRef .tc main_arg2)))

/-- the users' softmax numerators -/
theorem v73_at (n : Fin 50000) (k : Fin 64) : (res_main_v73 V : FVec Ideal S50000x64 .f32) (ix2 n k)
    = Ideal.exp (Spec.logit (model V hU hP hN).intentU ((model V hU hP hN).mean (Spec.lo n)) k
      - Spec.top (model V hU hP hN).intentU ((model V hU hP hN).mean (Spec.lo n))) := by
  have e : (res_main_v73 V : FVec Ideal S50000x64 .f32) = numerators (res_main_v66 V) := by
    unfold res_main_v73 numerators
    rfl
  rw [e, numerators_at]
  simp only [v66_at V hU hP hN]
  rfl
/-- and the items'. -/
theorem v87_at (n : Fin 50000) (k : Fin 64) : (res_main_v87 V : FVec Ideal S50000x64 .f32) (ix2 n k)
    = Ideal.exp (Spec.logit (model V hU hP hN).intentI ((model V hU hP hN).mean (Spec.hi n)) k
      - Spec.top (model V hU hP hN).intentI ((model V hU hP hN).mean (Spec.hi n))) := by
  have e : (res_main_v87 V : FVec Ideal S50000x64 .f32) = numerators (res_main_v80 V) := by
    unfold res_main_v87 numerators
    rfl
  rw [e, numerators_at]
  simp only [v80_at V hU hP hN]
  rfl
end

end Cert.ReferenceIdeal.Losses

end
-- ==== Proof.ReferenceRows.lean ====
/- The reference's sampled rows, read at an index in the model's terms. -/
module

public import proofs.«01_k».proof.Proof.Softmax

@[expose] public section

set_option maxRecDepth 16384

noncomputable section

namespace Cert.ReferenceIdeal.Losses

open Idealize.ShloMosaic Idealize.ShloMosaic.TcCoe Idealize.SL.Sem
open Cert.ReferenceIdeal Cert.ReferenceIdeal.Gen Cert.ReferenceIdeal.Value

section
variable (V : Valuation τ sig (Elt Ideal)) (hU : InRange (V (Proc.devRef .tc main_arg0)))
  (hP : InRange (V (Proc.devRef .tc main_arg1))) (hN : InRange (V (Proc.devRef .tc main_arg2)))

/-- The sampled users' means, -/
theorem v100_at (s : Fin 4096) (d : Fin 32) : (res_main_v100 V : FVec Ideal S4096x32 .f32) (ix2 s d)
    = (model V hU hP hN).mean (Spec.lo ((model V hU hP hN).user s)) d :=
  (lookup (res_main_v53 V) (V (Proc.devRef .tc main_arg0)) hU s d).trans (v53_at V hU hP hN _ d)
/-- their table rows, -/
theorem v149_at (s : Fin 4096) (d : Fin 32) : (res_main_v149 V : FVec Ideal S4096x32 .f32) (ix2 s d)
    = (model V hU hP hN).tableU ((model V hU hP hN).user s) d :=
  lookup (V (Proc.devRef .tc main_arg5)) (V (Proc.devRef .tc main_arg0)) hU s d
/-- the sampled items' table rows, -/
theorem v158_at (s : Fin 4096) (d : Fin 32) : (res_main_v158 V : FVec Ideal S4096x32 .f32) (ix2 s d)
    = (model V hU hP hN).tableI ((model V hU hP hN).pos s) d :=
  lookup (V (Proc.devRef .tc main_arg6)) (V (Proc.devRef .tc main_arg1)) hP s d
/-- the other sampled items', -/
theorem v168_at (s : Fin 4096) (d : Fin 32) : (res_main_v168 V : FVec Ideal S4096x32 .f32) (ix2 s d)
    = (model V hU hP hN).tableI ((model V hU hP hN).neg s) d :=
  lookup (V (Proc.devRef .tc main_arg6)) (V (Proc.devRef .tc main_arg2)) hN s d
/-- the sampled users' generated embeddings, -/
theorem v186_at (s : Fin 4096) (d : Fin 32) : (res_main_v186 V : FVec Ideal S4096x32 .f32) (ix2 s d)
    = (model V hU hP hN).gen (Spec.lo ((model V hU hP hN).user s)) d := by
  unfold res_main_v186
  refine (lookup _ (V (Proc.devRef .tc main_arg0)) hU s d).trans ?_
  pointwise
  exact v65_at V hU hP hN (Spec.lo ((model V hU hP hN).user s)) d
/-- the sampled items', -/
theorem v199_at (s : Fin 4096) (d : Fin 32) : (res_main_v199 V : FVec Ideal S4096x32 .f32) (ix2 s d)
    = (model V hU hP hN).gen (Spec.hi ((model V hU hP hN).pos s)) d := by
  unfold res_main_v199
  refine (lookup _ (V (Proc.devRef .tc main_arg1)) hP s d).trans ?_
  pointwise
  exact v65_at V hU hP hN (Spec.hi ((model V hU hP hN).pos s)) d
/-- the sampled users' intent embeddings -/
theorem v211_at (s : Fin 4096) (d : Fin 32) : (res_main_v211 V : FVec Ideal S4096x32 .f32) (ix2 s d)
    = (model V hU hP hN).intU s d := by
  unfold res_main_v211
  refine (lookup _ (V (Proc.devRef .tc main_arg0)) hU s d).trans ?_
  pointwise
  simp only [v73_at V hU hP hN]
  rfl
/-- and the sampled items'. -/
theorem v223_at (s : Fin 4096) (d : Fin 32) : (res_main_v223 V : FVec Ideal S4096x32 .f32) (ix2 s d)
    = (model V hU hP hN).intI s d := by
  unfold res_main_v223
  refine (lookup _ (V (Proc.devRef .tc main_arg1)) hP s d).trans ?_
  pointwise
  simp only [v87_at V hU hP hN]
  rfl
/-- Each divided by its length: the users' generated embeddings, -/
theorem v191_at (s : Fin 4096) (d : Fin 32) : (res_main_v191 V : FVec Ideal S4096x32 .f32) (ix2 s d)
    = Spec.unit ((model V hU hP hN).gen (Spec.lo ((model V hU hP hN).user s))) d := by
  pointwise [res_main_v191]
  simp only [v186_at V hU hP hN]
  rfl
/-- the items', -/
theorem v204_at (s : Fin 4096) (d : Fin 32) : (res_main_v204 V : FVec Ideal S4096x32 .f32) (ix2 s d)
    = Spec.unit ((model V hU hP hN).gen (Spec.hi ((model V hU hP hN).pos s))) d := by
  pointwise [res_main_v204]
  simp only [v199_at V hU hP hN]
  rfl
/-- the users' intent embeddings -/
theorem v216_at (s : Fin 4096) (d : Fin 32) : (res_main_v216 V : FVec Ideal S4096x32 .f32) (ix2 s d)
    = Spec.unit ((model V hU hP hN).intU s) d := by
  pointwise [res_main_v216]
  simp only [v211_at V hU hP hN]
  rfl
/-- and the items'. -/
theorem v228_at (s : Fin 4096) (d : Fin 32) : (res_main_v228 V : FVec Ideal S4096x32 .f32) (ix2 s d)
    = Spec.unit ((model V hU hP hN).intI s) d := by
  pointwise [res_main_v228]
  simp only [v223_at V hU hP hN]
  rfl
/-- The ranking scores' difference. -/
theorem v119_at (s : Fin 4096) : (res_main_v119 V : FVec Ideal S4096 .f32) (ix1 s)
    = (∑ k, (model V hU hP hN).mean (Spec.lo ((model V hU hP hN).user s)) k * (model V hU hP hN).mean (Spec.hi ((model V hU hP hN).neg s)) k)
      - ∑ k, (model V hU hP hN).mean (Spec.lo ((model V hU hP hN).user s)) k * (model V hU hP hN).mean (Spec.hi ((model V hU hP hN).pos s)) k := by
  have hp := fun k => (lookup (res_main_v54 V) (V (Proc.devRef .tc main_arg1)) hP s k).trans (v54_at V hU hP hN _ k)
  have hn := fun k => (lookup (res_main_v54 V) (V (Proc.devRef .tc main_arg2)) hN s k).trans (v54_at V hU hP hN _ k)
  unfold wrapped at hp hn
  unfold res_main_v119
  generalize Host.gather gather_S50000x32_S4096x1_S4096x32_1_0_n_n_0_1_132 (res_main_v54 V) _ = P at hp ⊢
  generalize Host.gather gather_S50000x32_S4096x1_S4096x32_1_0_n_n_0_1_132 (res_main_v54 V) _ = N at hn ⊢
  pointwise
  simp only [v100_at V hU hP hN, hp, hn]
  rfl
/-- The unfiltered Kullback–Leibler terms. -/
theorem v133_at (n : Fin 100000) (d : Fin 32) : (res_main_v133 V : FVec Ideal S100000x32 .f32) (ix2 n d)
    = Ideal.ofBits .f32 0xBF000000#32 * (1 + Ideal.ofBits .f32 0x40000000#32
        * Spec.std (model V hU hP hN).weights (model V hU hP hN).bias ((model V hU hP hN).mean n) d
      - (model V hU hP hN).mean n d * (model V hU hP hN).mean n d
      - Ideal.exp (Spec.std (model V hU hP hN).weights (model V hU hP hN).bias ((model V hU hP hN).mean n) d)
        * Ideal.exp (Spec.std (model V hU hP hN).weights (model V hU hP hN).bias ((model V hU hP hN).mean n) d)) := by
  pointwise [res_main_v133, res_main_v129]
  simp only [v63_at V hU hP hN]
  rfl
end

end Cert.ReferenceIdeal.Losses

end
-- ==== Proof.ReferenceRun.lean ====
/- The reference's four results are the model's four losses. -/
module

public import proofs.«01_k».proof.Proof.ReferenceRows

@[expose] public section

set_option maxRecDepth 16384

noncomputable section

namespace Cert.ReferenceIdeal.Losses

open Idealize.ShloMosaic Idealize.ShloMosaic.TcCoe Idealize.SL.Sem
open Cert.ReferenceIdeal Cert.ReferenceIdeal.Gen Cert.ReferenceIdeal.Value

/-- From any memory whose sampled numbers are in range, the reference ends with the four losses of its arguments' model,
    its arguments unchanged. -/
theorem computes (m : (ℓ : Loc nD τ sig) → Buf (Elt Ideal) ℓ) (ρ : Dev nD → PrngReg)
    (hU : ∀ c, InRange (StableHlo.launchContents m c (Proc.devRef .tc main_arg0)))
    (hP : ∀ c, InRange (StableHlo.launchContents m c (Proc.devRef .tc main_arg1)))
    (hN : ∀ c, InRange (StableHlo.launchContents m c (Proc.devRef .tc main_arg2))) :
    θ_run defs (onTc (τ := τ) (main (F := Ideal))) ⟨m, fun _ => 0, ρ⟩ fun r => ∀ c : Dev nD,
      r.2.mem ((c.tc : Thread nD τ).loc main_v142)
        = (fun _ => (model (StableHlo.launchContents m c) (hU c) (hP c) (hN c)).genLoss : FVec Ideal S_ .f32)
      ∧ r.2.mem ((c.tc : Thread nD τ).loc main_v270)
        = (fun _ => (model (StableHlo.launchContents m c) (hU c) (hP c) (hN c)).clLoss : FVec Ideal S_ .f32)
      ∧ r.2.mem ((c.tc : Thread nD τ).loc main_v172)
        = (fun _ => (model (StableHlo.launchContents m c) (hU c) (hP c) (hN c)).embLoss : FVec Ideal S_ .f32)
      ∧ r.2.mem ((c.tc : Thread nD τ).loc main_v178)
        = (fun _ => (model (StableHlo.launchContents m c) (hU c) (hP c) (hN c)).intLoss : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (run m ρ)
  obtain ⟨hg, hc, he, hi, args⟩ := h c
  refine ⟨hg.trans ?_, hc.trans ?_, he.trans ?_, hi.trans ?_, args⟩ <;> clear hg hc he hi args h
  · have U := hU c; have P := hP c; have N := hN c
    show _ = (fun _ => (model (StableHlo.launchContents m c) U P N).genLoss : FVec Ideal S_ .f32)
    revert U P N
    generalize (StableHlo.launchContents m c : Valuation τ sig (Elt Ideal)) = V
    intro U P N
    funext j
    pointwise [res_main_call2_v3, res_main_call2_cst]
    simp only [v119_at V U P N, v133_at V U P N, ne_eq, not_true_eq_false, if_false, sub_zero]
    rw [show (id (constant S_ .f32 0x00000000#32 : FVec Ideal S_ .f32)) ix0 = (0 : EReal) from Ideal.ofBits_zero_f32]
    unfold Spec.Model.genLoss
    have halves : (∑ n, (model V U P N).kl n) = (∑ n, (model V U P N).kl (Spec.lo n)) + ∑ n, (model V U P N).kl (Spec.hi n) :=
      Fin.sum_univ_two_halves 50000 50000 rfl (fun n : Fin 100000 => (model V U P N).kl n)
    rw [← halves]
    unfold Spec.Model.kl Spec.kl Spec.finite Spec.rank Spec.softplus
    simp only [zero_sub, ne_eq, not_true_eq_false]
  · have U := hU c; have P := hP c; have N := hN c
    show _ = (fun _ => (model (StableHlo.launchContents m c) U P N).clLoss : FVec Ideal S_ .f32)
    revert U P N
    generalize (StableHlo.launchContents m c : Valuation τ sig (Elt Ideal)) = V
    intro U P N
    funext j
    pointwise
    simp only [v191_at V U P N, v204_at V U P N, v216_at V U P N, v228_at V U P N]
    unfold Spec.Model.clLoss Spec.contrast
    simp only [zero_sub]
    rfl
  · have U := hU c; have P := hP c; have N := hN c
    show _ = (fun _ => (model (StableHlo.launchContents m c) U P N).embLoss : FVec Ideal S_ .f32)
    revert U P N
    generalize (StableHlo.launchContents m c : Valuation τ sig (Elt Ideal)) = V
    intro U P N
    funext j
    pointwise
    simp only [v149_at V U P N, v158_at V U P N, v168_at V U P N]
    rfl
  · have U := hU c; have P := hP c; have N := hN c
    show _ = (fun _ => (model (StableHlo.launchContents m c) U P N).intLoss : FVec Ideal S_ .f32)
    revert U P N
    generalize (StableHlo.launchContents m c : Valuation τ sig (Elt Ideal)) = V
    intro U P N
    funext j
    pointwise
    rfl

end Cert.ReferenceIdeal.Losses

end
-- ==== Proof.Agreement.lean ====
/- The two programs' models of the same arguments are one model. -/
module

public import proofs.«01_k».proof.Proof.Data
public import proofs.«01_k».proof.Proof.Reference

@[expose] public section

set_option maxRecDepth 16384

noncomputable section

namespace Cert.Agreement

open Idealize.ShloMosaic Idealize.ShloMosaic.TcCoe Idealize.SL.Sem

section
variable (V : Valuation ReferenceIdeal.τ ReferenceIdeal.sig (Elt Ideal)) (row col : IVec KernelIdeal.S1600000 32)
  (u i : FVec Ideal KernelIdeal.S50000x32 .f32)
  (h3 : V (Proc.devRef .tc ReferenceIdeal.main_arg3) = row) (h4 : V (Proc.devRef .tc ReferenceIdeal.main_arg4) = col)
  (h5 : V (Proc.devRef .tc ReferenceIdeal.main_arg5) = u) (h6 : V (Proc.devRef .tc ReferenceIdeal.main_arg6) = i)

include h3 in
/-- Both count the same degrees, -/
theorem degree_eq : ReferenceIdeal.Value.res_main_v3 V = KernelIdeal.Value.degree row := by
  unfold ReferenceIdeal.Value.res_main_v3 KernelIdeal.Value.degree
  rw [h3]
  rfl
include h3 in
/-- take the same power of them, -/
theorem root_eq : ReferenceIdeal.Value.res_main_v8 V = KernelIdeal.Value.rootDegree row := by
  unfold ReferenceIdeal.Value.res_main_v8 KernelIdeal.Value.rootDegree
  rw [degree_eq V row h3]
include h3 h4 in
/-- weigh the edges alike, -/
theorem weight_eq : ReferenceIdeal.Value.res_main_v23 V = KernelIdeal.Value.weight row col := by
  unfold ReferenceIdeal.Value.res_main_v23 KernelIdeal.Value.weight KernelIdeal.Value.wrap
  rw [root_eq V row h3, h3, h4]
  rfl
include h5 h6 in
/-- stack the same tables -/
theorem stacked_eq : ReferenceIdeal.Value.res_main_v24 V = KernelIdeal.Value.stacked u i := by
  unfold ReferenceIdeal.Value.res_main_v24 KernelIdeal.Value.stacked
  rw [h5, h6]
include h3 h4 h5 h6 in
/-- and hop alike. -/
theorem hop_eq : ReferenceIdeal.Value.res_main_v37 V = KernelIdeal.Value.hop row col (KernelIdeal.Value.stacked u i) := by
  unfold ReferenceIdeal.Value.res_main_v37 KernelIdeal.Value.hop KernelIdeal.Value.wrap
  rw [weight_eq V row col h3 h4, stacked_eq V u i h5 h6, h3, h4]
  rfl
include h3 h4 h5 h6 in
/-- So they propagate the same embeddings. -/
theorem propagated_eq : ReferenceIdeal.Value.res_main_v52 V = KernelIdeal.Value.propagated row col u i := by
  unfold ReferenceIdeal.Value.res_main_v52 KernelIdeal.Value.propagated
  rw [hop_eq V row col u i h3 h4 h5 h6, stacked_eq V u i h5 h6, weight_eq V row col h3 h4, h3, h4]
  generalize KernelIdeal.Value.stacked u i = x
  unfold KernelIdeal.Value.hop KernelIdeal.Value.wrap
  rfl
end

/-- From equal arguments the two models are equal. -/
theorem model_eq (V : Valuation ReferenceIdeal.τ ReferenceIdeal.sig (Elt Ideal))
    (m : (ℓ : Loc KernelIdeal.nD KernelIdeal.τ KernelIdeal.sig) → Buf (Elt Ideal) ℓ) (c : Dev KernelIdeal.nD)
    (h0 : V (Proc.devRef .tc ReferenceIdeal.main_arg0) = m ((c.tc : Thread KernelIdeal.nD KernelIdeal.τ).loc KernelIdeal.main_arg0))
    (h1 : V (Proc.devRef .tc ReferenceIdeal.main_arg1) = m ((c.tc : Thread KernelIdeal.nD KernelIdeal.τ).loc KernelIdeal.main_arg1))
    (h2 : V (Proc.devRef .tc ReferenceIdeal.main_arg2) = m ((c.tc : Thread KernelIdeal.nD KernelIdeal.τ).loc KernelIdeal.main_arg2))
    (h3 : V (Proc.devRef .tc ReferenceIdeal.main_arg3) = m ((c.tc : Thread KernelIdeal.nD KernelIdeal.τ).loc KernelIdeal.main_arg3))
    (h4 : V (Proc.devRef .tc ReferenceIdeal.main_arg4) = m ((c.tc : Thread KernelIdeal.nD KernelIdeal.τ).loc KernelIdeal.main_arg4))
    (h5 : V (Proc.devRef .tc ReferenceIdeal.main_arg5) = m ((c.tc : Thread KernelIdeal.nD KernelIdeal.τ).loc KernelIdeal.main_arg5))
    (h6 : V (Proc.devRef .tc ReferenceIdeal.main_arg6) = m ((c.tc : Thread KernelIdeal.nD KernelIdeal.τ).loc KernelIdeal.main_arg6))
    (h7 : V (Proc.devRef .tc ReferenceIdeal.main_arg7) = m ((c.tc : Thread KernelIdeal.nD KernelIdeal.τ).loc KernelIdeal.main_arg7))
    (h8 : V (Proc.devRef .tc ReferenceIdeal.main_arg8) = m ((c.tc : Thread KernelIdeal.nD KernelIdeal.τ).loc KernelIdeal.main_arg8))
    (h9 : V (Proc.devRef .tc ReferenceIdeal.main_arg9) = m ((c.tc : Thread KernelIdeal.nD KernelIdeal.τ).loc KernelIdeal.main_arg9))
    (h10 : V (Proc.devRef .tc ReferenceIdeal.main_arg10) = m ((c.tc : Thread KernelIdeal.nD KernelIdeal.τ).loc KernelIdeal.main_arg10))
    (h11 : V (Proc.devRef .tc ReferenceIdeal.main_arg11) = m ((c.tc : Thread KernelIdeal.nD KernelIdeal.τ).loc KernelIdeal.main_arg11))
    (rU rP rN) (kU kP kN) :
    ReferenceIdeal.Losses.model V rU rP rN = KernelIdeal.Value.model m c kU kP kN := by
  unfold ReferenceIdeal.Losses.model KernelIdeal.Value.model
  rw [propagated_eq V _ _ _ _ h3 h4 h5 h6]
  simp only [h0, h1, h2, h5, h6, h7, h8, h9, h10, h11]

end Cert.Agreement

end
-- ==== Proof.Range.lean ====
/- What the precondition says: the sampled numbers lie in their tables. -/
module

public import proofs.«01_k».proof.Pre_ids_in_range
public import Idealize.ShloMosaic.Lib.Pointwise

@[expose] public section

noncomputable section

namespace Cert.Range

open Idealize.ShloMosaic Cert.Pre_ids_in_range

/-- The precondition's one broadcast is a broadcast. -/
theorem facts : Cert.Pre_ids_in_range.Facts where
  bcast_S_S4096 := by decide

/-- The conjunction of two bits is set only if both are. -/
theorem both {a b : BitVec 1} (h : IntOp.andi a b = 1#1) : a = 1#1 ∧ b = 1#1 := by
  unfold IntOp.andi at h
  revert a b
  decide

/-- A number neither negative nor 50000 or more, as signed comparisons have it, is below 50000 unsigned. -/
theorem below (x : BitVec 32) (h0 : Scalar.cmpi .sge x 0#32 = 1#1) (h1 : Scalar.cmpi .slt x 50000#32 = 1#1) :
    x.toNat < 50000 := by
  have e0 : (0#32).sle x = true := by
    have h : BitVec.ofBool ((0#32).sle x) = 1#1 := h0
    cases hb : (0#32).sle x
    · rw [hb] at h
      exact absurd h (by decide)
    · rfl
  have e1 : x.slt 50000#32 = true := by
    have h : BitVec.ofBool (x.slt 50000#32) = 1#1 := h1
    cases hb : x.slt 50000#32
    · rw [hb] at h
      exact absurd h (by decide)
    · rfl
  rw [BitVec.sle_eq_decide, decide_eq_true_eq] at e0
  rw [BitVec.slt_eq_decide, decide_eq_true_eq] at e1
  have hx := BitVec.toInt_eq_toNat_cond x
  have l0 : (0#32).toInt = 0 := by decide
  have l1 : (50000#32).toInt = 50000 := by decide
  rw [l0] at e0
  rw [l1] at e1
  split at hx <;> omega

/-- Under the precondition each of the three arrays of sampled numbers lies below 50000. -/
theorem inRange [Cert.Pre_ids_in_range.Facts] (a0 a1 a2 : IVec S4096 32) (a3 a4 : IVec S1600000 32)
    (a5 a6 : FVec Ideal S50000x32 .f32) (a7 a8 : FVec Ideal ⟨2, ![32, 64]⟩ .f32) (a9 : FVec Ideal S32x16 .f32)
    (a10 : FVec Ideal S32 .f32) (a11 : FVec Ideal S100000x32 .f32)
    (h : fn (F := Ideal) a0 a1 a2 a3 a4 a5 a6 a7 a8 a9 a10 a11 = fun _ => 1#1) (s : Fin 4096) :
    (a0 (ix1 s)).toNat < 50000 ∧ (a1 (ix1 s)).toNat < 50000 ∧ (a2 (ix1 s)).toNat < 50000 := by
  have e := congrFun h (ix1 s)
  unfold fn at e
  have e' : IntOp.andi (IntOp.andi (IntOp.andi (IntOp.andi (IntOp.andi
      (Scalar.cmpi .sge (a0 (ix1 s)) 0#32) (Scalar.cmpi .slt (a0 (ix1 s)) 50000#32))
      (Scalar.cmpi .sge (a1 (ix1 s)) 0#32)) (Scalar.cmpi .slt (a1 (ix1 s)) 50000#32))
      (Scalar.cmpi .sge (a2 (ix1 s)) 0#32)) (Scalar.cmpi .slt (a2 (ix1 s)) 50000#32) = 1#1 := e
  obtain ⟨e', n1⟩ := both e'
  obtain ⟨e', n0⟩ := both e'
  obtain ⟨e', p1⟩ := both e'
  obtain ⟨e', p0⟩ := both e'
  obtain ⟨u0, u1⟩ := both e'
  exact ⟨below _ u0 u1, below _ p0 p1, below _ n0 n1⟩

end Cert.Range

end
-- ==== Proof.lean ====
/- The certificate: the kernel and its reference run to the end on every memory, and on every memory whose sampled
   numbers lie in their tables they end with the same four losses. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.ReferenceRun
public import proofs.«01_k».proof.Proof.Agreement
public import proofs.«01_k».proof.Proof.Range
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference terminates, leaves its arguments and its counters as they were. -/
theorem reference_frame : Cert.quiescent_ReferenceIdeal := by
  intro m ρ _
  refine (θ_run _ _ _).mono (fun r h => ⟨fun c => ?_, ?_⟩) (Cert.ReferenceIdeal.Value.run m ρ)
  · obtain ⟨-, -, -, -, h⟩ := h c
    exact h
  · exact sem_eq_zero_of_no_sems rfl _

/-- From equal arguments, the sampled numbers in range, kernel and reference end with equal losses. -/
theorem losses_agree : Cert.algebraic_KernelIdeal_ReferenceIdeal_pre_ids_in_range
    (hPre_ids_in_range := Cert.Range.facts) := by
  intro m g m' g' pre agree
  have range := fun c s => @Cert.Range.inRange Cert.Range.facts _ _ _ _ _ _ _ _ _ _ _ _ (pre c) s
  have kU : ∀ c : Dev Cert.KernelIdeal.nD, Cert.KernelIdeal.Value.InRange
      (m ((c.tc : Thread Cert.KernelIdeal.nD Cert.KernelIdeal.τ).loc Cert.KernelIdeal.main_arg0)) := fun c s => (range c s).1
  have kP : ∀ c : Dev Cert.KernelIdeal.nD, Cert.KernelIdeal.Value.InRange
      (m ((c.tc : Thread Cert.KernelIdeal.nD Cert.KernelIdeal.τ).loc Cert.KernelIdeal.main_arg1)) := fun c s => (range c s).2.1
  have kN : ∀ c : Dev Cert.KernelIdeal.nD, Cert.KernelIdeal.Value.InRange
      (m ((c.tc : Thread Cert.KernelIdeal.nD Cert.KernelIdeal.τ).loc Cert.KernelIdeal.main_arg2)) := fun c s => (range c s).2.2
  have rU : ∀ c : Dev Cert.ReferenceIdeal.nD, Cert.ReferenceIdeal.Losses.InRange
      (StableHlo.launchContents m' c (Proc.devRef .tc Cert.ReferenceIdeal.main_arg0)) := fun c s => by
    rw [show StableHlo.launchContents m' c (Proc.devRef .tc Cert.ReferenceIdeal.main_arg0) = _ from (agree c).1]
    exact kU c s
  have rP : ∀ c : Dev Cert.ReferenceIdeal.nD, Cert.ReferenceIdeal.Losses.InRange
      (StableHlo.launchContents m' c (Proc.devRef .tc Cert.ReferenceIdeal.main_arg1)) := fun c s => by
    rw [show StableHlo.launchContents m' c (Proc.devRef .tc Cert.ReferenceIdeal.main_arg1) = _ from (agree c).2.1]
    exact kP c s
  have rN : ∀ c : Dev Cert.ReferenceIdeal.nD, Cert.ReferenceIdeal.Losses.InRange
      (StableHlo.launchContents m' c (Proc.devRef .tc Cert.ReferenceIdeal.main_arg2)) := fun c s => by
    rw [show StableHlo.launchContents m' c (Proc.devRef .tc Cert.ReferenceIdeal.main_arg2) = _ from (agree c).2.2.1]
    exact kN c s
  have same : ∀ c : Dev Cert.KernelIdeal.nD,
      Cert.ReferenceIdeal.Losses.model (StableHlo.launchContents m' c) (rU c) (rP c) (rN c)
        = Cert.KernelIdeal.Value.model m c (kU c) (kP c) (kN c) := fun c => by
    obtain ⟨h0, h1, h2, h3, h4, h5, h6, h7, h8, h9, h10, h11⟩ := agree c
    exact Cert.Agreement.model_eq _ m c h0 h1 h2 h3 h4 h5 h6 h7 h8 h9 h10 h11 _ _ _ _ _ _
  refine ⟨_, _, _, _, Cert.KernelIdeal.Value.computes m g kU kP kN, ?_⟩
  refine (θ_run _ _ _).mono (fun r h c => ?_) (Cert.ReferenceIdeal.Losses.computes m' g' rU rP rN)
  have hc := h c
  rw [same c] at hc
  exact hc

/-- The certificate: the frames of the three programs, the idealization, and the equality of the losses. -/
theorem claim : Cert.Claim :=
  ⟨Cert.Kernel.Gen.facts, Cert.KernelIdeal.Gen.facts, Cert.ReferenceIdeal.Gen.facts, Cert.Range.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    losses_agree⟩

end Cert.Proof

end
